-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 4096]⟩ ⟨2, ![512, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bitsLt_bf16_f32 : FTy.bits .bf16 < FTy.bits .f32
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S256x512 .bf16) (main_arg1 : FVec F S512x4096 .bf16) (main_arg2 : IVec S256 32) : IVec S_ 1 :=
  let main_v0 : FVec F S256x512 .f32 := (extf .f32 · bitsLt_bf16_f32) main_arg0
  let main_v1 : FVec F S256x512 .f32 := Host.absf main_v0
  let main_cst : FVec F S_ .f32 := constant S_ .f32 0x7F800000#32
  let main_v2 : FVec F S256x512 .f32 := broadcastInDim S256x512 ![] bcast_S_S256x512 main_cst
  let main_v3 : IVec S256x512 1 := cmpf .olt main_v1 main_v2
  let main_c : IVec S_ 1 := constantI S_ 1 1#1
  let main_v4 : IVec S_ 1 := (fun x v => Host.reduce IntOp.andi x v reducesTo_S256x512_S_d0_1 h_S_) main_v3 main_c
  let main_v5 : FVec F S512x4096 .f32 := (extf .f32 · bitsLt_bf16_f32) main_arg1
  let main_v6 : FVec F S512x4096 .f32 := Host.absf main_v5
  let main_cst_0 : FVec F S_ .f32 := constant S_ .f32 0x7F800000#32
  let main_v7 : FVec F S512x4096 .f32 := broadcastInDim S512x4096 ![] bcast_S_S512x4096 main_cst_0
  let main_v8 : IVec S512x4096 1 := cmpf .olt main_v6 main_v7
  let main_c_1 : IVec S_ 1 := constantI S_ 1 1#1
  let main_v9 : IVec S_ 1 := (fun x v => Host.reduce IntOp.andi x v reducesTo_S512x4096_S_d0_1 h_S_) main_v8 main_c_1
  let main_v10 : IVec S_ 1 := andi main_v4 main_v9
  let main_c_2 : IVec S_ 32 := constantI S_ 32 0#32
  let main_v11 : IVec S256 32 := broadcastInDim S256 ![] bcast_S_S256 main_c_2
  let main_v12 : IVec S256 1 := cmpi .sge main_arg2 main_v11
  let main_c_3 : IVec S_ 32 := constantI S_ 32 16384#32
  let main_v13 : IVec S256 32 := broadcastInDim S256 ![] bcast_S_S256 main_c_3
  let main_v14 : IVec S256 1 := cmpi .slt main_arg2 main_v13
  let main_v15 : IVec S256 1 := andi main_v12 main_v14
  let main_c_4 : IVec S_ 1 := constantI S_ 1 1#1
  let main_v16 : IVec S_ 1 := (fun x v => Host.reduce IntOp.andi x v reducesTo_S256_S_d0 h_S_) main_v15 main_c_4
  fn_part1 (F := F) main_v10 main_v16
-- ==== Pre_finite_and_in_range_ReferenceIdeal.lean ====
abbrev S256x512 : Shape := ⟨2, ![256, 512]⟩
abbrev S512x16384 : Shape := ⟨2, ![512, 16384]⟩
abbrev S256 : Shape := ⟨1, ![256]⟩
abbrev S_ : Shape := ⟨0, ![]⟩

class Facts : Prop where
  bitsLt_bf16_f32 : FTy.bits .bf16 < FTy.bits .f32
  bcast_S_S256x512 : S_.BroadcastsInDim S256x512 (![] : Fin 0 → Fin S256x512.rank)
  reducesTo_S256x512_S_d0_1 : S256x512.ReducesTo [0, 1] S_
  h_S_ : 0 < S_.numel
  bcast_S_S512x16384 : S_.BroadcastsInDim S512x16384 (![] : Fin 0 → Fin S512x16384.rank)
  reducesTo_S512x16384_S_d0_1 : S512x16384.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S256x512 .bf16) (main_arg1 : FVec F S512x16384 .bf16) (main_arg2 : IVec S256 32) : IVec S_ 1 :=
  let main_v0 : FVec F S256x512 .f32 := (extf .f32 · bitsLt_bf16_f32) main_arg0
  let main_v1 : FVec F S256x512 .f32 := Host.absf main_v0
  let main_cst : FVec F S_ .f32 := constant S_ .f32 0x7F800000#32
  let main_v2 : FVec F S256x512 .f32 := broadcastInDim S256x512 ![] bcast_S_S256x512 main_cst
  let main_v3 : IVec S256x512 1 := cmpf .olt main_v1 main_v2
  let main_c : IVec S_ 1 := constantI S_ 1 1#1
  let main_v4 : IVec S_ 1 := (fun x v => Host.reduce IntOp.andi x v reducesTo_S256x512_S_d0_1 h_S_) main_v3 main_c
  let main_v5 : FVec F S512x16384 .f32 := (extf .f32 · bitsLt_bf16_f32) main_arg1
  let main_v6 : FVec F S512x16384 .f32 := Host.absf main_v5
  let main_cst_0 : FVec F S_ .f32 := constant S_ .f32 0x7F800000#32
  let main_v7 : FVec F S512x16384 .f32 := broadcastInDim S512x16384 ![] bcast_S_S512x16384 main_cst_0
  let main_v8 : IVec S512x16384 1 := cmpf .olt main_v6 main_v7
  let main_c_1 : IVec S_ 1 := constantI S_ 1 1#1
  let main_v9 : IVec S_ 1 := (fun x v => Host.reduce IntOp.andi x v reducesTo_S512x16384_S_d0_1 h_S_) main_v8 main_c_1
  let main_v10 : IVec S_ 1 := andi main_v4 main_v9
  let main_c_2 : IVec S_ 32 := constantI S_ 32 0#32
  let main_v11 : IVec S256 32 := broadcastInDim S256 ![] bcast_S_S256 main_c_2
  let main_v12 : IVec S256 1 := cmpi .sge main_arg2 main_v11
  let main_c_3 : IVec S_ 32 := constantI S_ 32 16384#32
  let main_v13 : IVec S256 32 := broadcastInDim S256 ![] bcast_S_S256 main_c_3
  let main_v14 : IVec S256 1 := cmpi .slt main_arg2 main_v13
  let main_v15 : IVec S256 1 := andi main_v12 main_v14
  let main_c_4 : IVec S_ 1 := constantI S_ 1 1#1
  let main_v16 : IVec S_ 1 := (fun x v => Host.reduce IntOp.andi x v reducesTo_S256_S_d0 h_S_) main_v15 main_c_4
  fn_part1 (F := F) main_v10 main_v16
-- ==== Kernel.lean ====
abbrev S256x512 : Shape := ⟨2, ![256, 512]⟩
abbrev S512x4096 : Shape := ⟨2, ![512, 4096]⟩
abbrev S256 : Shape := ⟨1, ![256]⟩
abbrev S256x1 : Shape := ⟨2, ![256, 1]⟩
abbrev S4x256x2 : Shape := ⟨3, ![4, 256, 2]⟩
abbrev S3 : Shape := ⟨1, ![3]⟩
abbrev S_ : Shape := ⟨0, ![]⟩
abbrev S256x4096 : Shape := ⟨2, ![256, 4096]⟩
abbrev S256x2 : Shape := ⟨2, ![256, 2]⟩
abbrev S1x256x2 : Shape := ⟨3, ![1, 256, 2]⟩
abbrev S1 : Shape := ⟨1, ![1]⟩

abbrev nBuf : Space → Nat
  | .hbm => 6
  | .vmem => 5
  | .smem => 0
  | _ => 0

abbrev bufTy : (tb : Table) → Fin (tcTables nBuf tb) → BufTy
  | .hbm, ⟨0, _⟩ => ⟨S256x512, .bf16⟩
  | .hbm, ⟨1, _⟩ => ⟨S512x4096, .bf16⟩
  | .hbm, ⟨2, _⟩ => ⟨S256, .i32⟩
  | .hbm, ⟨3, _⟩ => ⟨S256x1, .i32⟩
  | .hbm, ⟨4, _⟩ => ⟨S256x1, .f32⟩
  | .hbm, ⟨5, _⟩ => ⟨S256, .f32⟩
  | .local _ .vmem, ⟨0, _⟩ => ⟨S256x512, .bf16⟩
  | .local _ .vmem, ⟨1, _⟩ => ⟨S512x4096, .bf16⟩
  | .local _ .vmem, ⟨2, _⟩ => ⟨S256x1, .i32⟩
  | .local _ .vmem, ⟨3, _⟩ => ⟨S256x1, .f32⟩
  | .local _ .vmem, ⟨4, _⟩ => ⟨S4x256x2, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v40 : BitVec 32 := Scalar.addi v2 c1_i32_24
  let c4_i32_25 : BitVec 32 := 4#32
  let v41 : BitVec 32 := Scalar.remsi v40 c4_i32_25
  let c1_i32_30 : BitVec 32 := 1#32
  let v42 : BitVec 32 := Scalar.muli v41 c1_i32_30
  let v43 : BitVec 32 := Scalar.addi c0_i32_31 v42
  v43.toNat
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_36 : BitVec 32 := 2#32
  let v52 : BitVec 32 := Scalar.addi v2 c2_i32_36
  let c4_i32_37 : BitVec 32 := 4#32
  let v53 : BitVec 32 := Scalar.remsi v52 c4_i32_37
  let c1_i32_42 : BitVec 32 := 1#32
  let v54 : BitVec 32 := Scalar.muli v53 c1_i32_42
  let v55 : BitVec 32 := Scalar.addi c0_i32_43 v54
  v55.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_48 : BitVec 32 := 3#32
  let v64 : BitVec 32 := Scalar.addi v2 c3_i32_48
  let c4_i32_49 : BitVec 32 := 4#32
  let v65 : BitVec 32 := Scalar.remsi v64 c4_i32_49
  let c1_i32_54 : BitVec 32 := 1#32
  let v66 : BitVec 32 := Scalar.muli v65 c1_i32_54
  let v67 : BitVec 32 := Scalar.addi c0_i32_55 v66
  v67.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x512 : Shape := ⟨2, ![256, 512]⟩
abbrev S512x16384 : Shape := ⟨2, ![512, 16384]⟩
abbrev S256 : Shape := ⟨1, ![256]⟩
abbrev S256x16384 : Shape := ⟨2, ![256, 16384]⟩
abbrev S_ : Shape := ⟨0, ![]⟩
abbrev S256x1 : Shape := ⟨2, ![256, 1]⟩
abbrev S256x2 : Shape := ⟨2, ![256, 2]⟩

abbrev nBuf : Space → Nat
  | .hbm => 38
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S512x16384, .bf16⟩
  | .hbm, ⟨2, _⟩ => ⟨S256, .i32⟩
  | .hbm, ⟨3, _⟩ => ⟨S256x512, .f32⟩
  | .hbm, ⟨4, _⟩ => ⟨S512x16384, .f32⟩
  | .hbm, ⟨5, _⟩ => ⟨S256x16384, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x16384, .f32⟩
  | .hbm, ⟨10, _⟩ => ⟨S256x16384, .f32⟩
  | .hbm, ⟨11, _⟩ => ⟨S256x16384, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256, .f32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S256x1, .i32⟩
  | .hbm, ⟨34, _⟩ => ⟨S256x1, .i32⟩
  | .hbm, ⟨35, _⟩ => ⟨S256x2, .i32⟩
  | .hbm, ⟨36, _⟩ => ⟨S256, .f32⟩
  | .hbm, ⟨37, _⟩ => ⟨S256, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Protocol.lean ====
/-
# The exchange between the four devices: who signals, who copies, what lands

Every device holds a scratch buffer of four slots. Slot 0 is for its own partial sums, slot `k + 1` for those of the device
`k + 1` places before it on the ring. A device

1. signals the barrier semaphore of each of the other three: the signal to the device `j + 1` places on hands that device
   the one slot it will write here, whatever that slot holds, and the fact that the matching receive cell is open;
2. computes its partial sums and stores them in slot 0;
3. waits for three barrier units, and so owns one slot on each of the other three devices;
4. copies slot 0 into slot `k + 1` of the device `k + 1` places on, for `k = 0, 1, 2`: three copies read slot 0 at once, each
   at a share of its own;
5. waits for its three receive semaphores: slots 1, 2, 3 come back holding the others' partial sums;
6. reads all four slots, and waits for its three send semaphores, which return the shares of slot 0.

Everything here is over `part`, the partial sums each device stores, and says nothing of how they are computed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The exchange's own ghost state: a round machine whose duties are named by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
/-- The device `j + 1` places on. -/
def shift (c : Dev nD) (j : Fin 3) : Dev nD := ⟨(c.val + j.val + 1) % 4, Nat.mod_lt _ (by decide)⟩
set_option backward.proofsInPublic true in
/-- The device whose partial sums slot `k` of device `c` is for. -/
def src (c : Dev nD) (k : Fin 4) : Dev nD := ⟨(c.val + (4 - k.val)) % 4, Nat.mod_lt _ (by decide)⟩

theorem shift_rev (c : Dev nD) (j : Fin 3) : shift (shift c j) j.rev = c := by revert c j; decide
theorem shift_rev' (c : Dev nD) (j : Fin 3) : shift (shift c j.rev) j = c := by revert c j; decide
theorem src_zero (c : Dev nD) : src c 0 = c := by revert c; decide
theorem src_shift (c : Dev nD) (j : Fin 3) : src (shift c j) j.succ = c := by revert c j; decide

/-- The ring turned by `j + 1` places. -/
def turn (j : Fin 3) : Dev nD ≃ Dev nD := ⟨fun c => shift c j, fun c => shift c j.rev, fun c => shift_rev c j, fun c => shift_rev' c j⟩

theorem dev1_eq (c : Dev nD) : (⟨k0_dev1 c, k0_dev1_lt c⟩ : Dev nD) = shift c 0 := Fin.ext (k0_dev1_eq c)
theorem dev2_eq (c : Dev nD) : (⟨k0_dev2 c, k0_dev2_lt c⟩ : Dev nD) = shift c 1 := Fin.ext (k0_dev2_eq c)
theorem dev3_eq (c : Dev nD) : (⟨k0_dev3 c, k0_dev3_lt c⟩ : Dev nD) = shift c 2 := Fin.ext (k0_dev3_eq c)
theorem dev4_eq (c : Dev nD) : (⟨k0_dev4 c, k0_dev4_lt c⟩ : Dev nD) = shift c 0 := Fin.ext (k0_dev4_eq c)
theorem dev5_eq (c : Dev nD) : (⟨k0_dev5 c, k0_dev5_lt c⟩ : Dev nD) = shift c 1 := Fin.ext (k0_dev5_eq c)
theorem dev6_eq (c : Dev nD) : (⟨k0_dev6 c, k0_dev6_lt c⟩ : Dev nD) = shift c 2 := Fin.ext (k0_dev6_eq c)

/-! ## The slots -/

abbrev commM : Memref sig .tc .vmem S4x256x2 .f32 := Memref.whole cc0_scratch0

theorem slot_inb (k : Fin 4) : ∀ a, (![k.val, 0, 0] : Fin 3 → ℕ) a + S1x256x2.size a ≤ S4x256x2.size a := by
  revert k; decide

abbrev slotRect (k : Fin 4) : Rect S4x256x2 := Rect.unit (s := S4x256x2) ![k.val, 0, 0] S1x256x2.size (slot_inb k)

/-- Slot `k` as the kernel's copies name it. -/
abbrev slotM (k : Fin 4) : Memref sig .tc .vmem S256x2 .f32 :=
  (commM.slice (slotRect k) (fun _ => rfl)).squeeze S256x2 squeezes_S1x256x2_S256x2

theorem slot0_eq : ((commM.slice (Rect.unit (s := S4x256x2) ![0, 0, 0] S1x256x2.size inb_S4x256x2_S1x256x2_0_0_0) (fun _ => rfl)).squeeze S256x2 squeezes_S1x256x2_S256x2) = slotM 0 := rfl
theorem slot1_eq : ((commM.slice (Rect.unit (s := S4x256x2) ![1, 0, 0] S1x256x2.size inb_S4x256x2_S1x256x2_1_0_0) (fun _ => rfl)).squeeze S256x2 squeezes_S1x256x2_S256x2) = slotM 1 := rfl
theorem slot2_eq : ((commM.slice (Rect.unit (s := S4x256x2) ![2, 0, 0] S1x256x2.size inb_S4x256x2_S1x256x2_2_0_0) (fun _ => rfl)).squeeze S256x2 squeezes_S1x256x2_S256x2) = slotM 2 := rfl
theorem slot3_eq : ((commM.slice (Rect.unit (s := S4x256x2) ![3, 0, 0] S1x256x2.size inb_S4x256x2_S1x256x2_3_0_0) (fun _ => rfl)).squeeze S256x2 squeezes_S1x256x2_S256x2) = slotM 3 := rfl

/-- A slot's elements: the indices whose first coordinate names it. -/
abbrev slotSet (k : Fin 4) : Finset (cc0_scratch0 : Ref sig .tc).ty.Idx := (slotM k).view.set

theorem slotSet_eq (k : Fin 4) : slotSet k = (slotRect k).set := by
  show (((View.whole cc0_scratch0).slice (slotRect k)).reshape S256x2 _).set = _
  rw [View.set_reshape, View.set_slice_whole]

theorem mem_slotSet (k : Fin 4) (i : S4x256x2.Idx) : i ∈ slotSet k ↔ i 0 = k := by
  rw [slotSet_eq, Rect.mem_set_unit]
  have h0 : (i 0).val < 4 := (i 0).isLt
  have h1 : (i 1).val < 256 := (i 1).isLt
  have h2 : (i 2).val < 2 := (i 2).isLt
  constructor
  · intro h
    have := h 0
    exact Fin.ext (by simp [S1x256x2] at this; omega)
  · rintro rfl a
    fin_cases a <;> simp [S1x256x2] <;> omega

theorem slots_disjoint {k k' : Fin 4} (h : k ≠ k') : Disjoint (slotSet k) (slotSet k') := by
  rw [Finset.disjoint_left]
  intro i hi hi'
  exact h (((mem_slotSet k i).1 hi).symm.trans ((mem_slotSet k' i).1 hi'))

theorem slots_cover : (Finset.univ : Finset (Fin 4)).biUnion slotSet = (Finset.univ : Finset (cc0_scratch0 : Ref sig .tc).ty.Idx) := by
  ext i
  simp only [Finset.mem_biUnion, Finset.mem_univ, true_and, iff_true]
  exact ⟨(show S4x256x2.Idx from i) 0, (mem_slotSet _ i).2 rfl⟩

/-- A slot's own index: the slot coordinate dropped to zero. -/
def low (i : S4x256x2.Idx) : S1x256x2.Idx := fun
  | 0 => ⟨0, by decide⟩
  | 1 => i 1
  | 2 => i 2

/-- Where a slot's index sits: at the slot's number, the other two coordinates kept. -/
theorem slot_emb (k : Fin 4) (x : S256x2.Idx) :
    (show S4x256x2.Idx from (slotM k).view.emb x) 0 = k
      ∧ low ((slotM k).view.emb x) = Shape.reshapeEquiv squeezes_S1x256x2_S256x2.numel_eq x := by
  have e : ∀ a, ((show S4x256x2.Idx from (slotM k).view.emb x) a).val
      = (![k.val, 0, 0] : Fin 3 → ℕ) a + (Shape.reshapeEquiv squeezes_S1x256x2_S256x2.numel_eq x a).val := fun a =>
    ValueKit.rect_emb_unit_val _ _ (slot_inb k) (Shape.reshapeEquiv squeezes_S1x256x2_S256x2.numel_eq x) a
  have z : (Shape.reshapeEquiv squeezes_S1x256x2_S256x2.numel_eq x 0).val = 0 :=
    Nat.lt_one_iff.1 (Shape.reshapeEquiv squeezes_S1x256x2_S256x2.numel_eq x 0).isLt
  refine ⟨Fin.ext ((e 0).trans (by rw [z]; rfl)), funext fun a => Fin.ext ?_⟩
  fin_cases a
  · exact z.symm
  · exact (e 1).trans (Nat.zero_add _)
  · exact (e 2).trans (Nat.zero_add _)

/-- The rectangle of slot 0, where the store puts a device's own partial sums. -/
theorem store_emb (y : S1x256x2.Idx) :
    (show S4x256x2.Idx from (commM.access (slotRect 0)).emb y) 0 = (0 : Fin 4) ∧ low ((commM.access (slotRect 0)).emb y) = y := by
  have e : ∀ a, ((show S4x256x2.Idx from (commM.access (slotRect 0)).emb y) a).val = (![0, 0, 0] : Fin 3 → ℕ) a + (y a).val := fun a =>
    ValueKit.rect_emb_unit_val _ _ (slot_inb 0) y a
  have z : (y 0).val = 0 := Nat.lt_one_iff.1 (y 0).isLt
  refine ⟨Fin.ext ((e 0).trans (by rw [z]; rfl)), funext fun a => Fin.ext ?_⟩
  fin_cases a
  · exact z.symm
  · exact (e 1).trans (Nat.zero_add _)
  · exact (e 2).trans (Nat.zero_add _)

/-! ## The semaphores and the cells -/

/-- The barrier semaphore; the three send and the three receive semaphores of the copies. -/
abbrev barS : Sem sig := (SemArray.scalar (sig.barrier 0 rfl) : Sems sig S_).sem
abbrev sendS (k : Fin 3) : DmaSem sig := ⟨4 + k.val, by have := k.isLt; show _ < 10; omega⟩
abbrev recvS (k : Fin 3) : DmaSem sig := ⟨7 + k.val, by have := k.isLt; show _ < 10; omega⟩

theorem send0_eq : ((cc0_scratch1.slice (Rect.unit (s := S3) ![0] S1.size inb_S3_S1_0)).squeeze S_ squeezes_S1_S_).sem = sendS 0 := rfl
theorem send1_eq : ((cc0_scratch1.slice (Rect.unit (s := S3) ![1] S1.size inb_S3_S1_1)).squeeze S_ squeezes_S1_S_).sem = sendS 1 := rfl
theorem send2_eq : ((cc0_scratch1.slice (Rect.unit (s := S3) ![2] S1.size inb_S3_S1_2)).squeeze S_ squeezes_S1_S_).sem = sendS 2 := rfl
theorem recv0_eq : ((cc0_scratch2.slice (Rect.unit (s := S3) ![0] S1.size inb_S3_S1_0)).squeeze S_ squeezes_S1_S_).sem = recvS 0 := rfl
theorem recv1_eq : ((cc0_scratch2.slice (Rect.unit (s := S3) ![1] S1.size inb_S3_S1_1)).squeeze S_ squeezes_S1_S_).sem = recvS 1 := rfl
theorem recv2_eq : ((cc0_scratch2.slice (Rect.unit (s := S3) ![2] S1.size inb_S3_S1_2)).squeeze S_ squeezes_S1_S_).sem = recvS 2 := rfl

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The credit of one copy of a slot. -/
abbrev N : ℕ := (slotM 0).view.dmaCredit
theorem N_pos : 0 < N := View.dmaCredit_pos _ (by decide)

/-! ## What the slots hold -/

section Contents

variable (part : Dev nD → Vec F S1x256x2 .f32)

/-- The scratch buffer of device `c` once every copy has landed: in slot `k`, what the device `src c k` stored. -/
def comm (c : Dev nD) : (cc0_scratch0 : Ref sig .tc).ty.Contents (Elt F) := fun (i : S4x256x2.Idx) => part (src c (i 0)) (low i)

/-- Slot `k` of device `c` at share `q`, holding what `f` holds there. -/
def slotPts (k : Fin 4) (c : Dev nD) (q : PosShare TreeShare) (f : (cc0_scratch0 : Ref sig .tc).ty.Contents (Elt F)) : sProp 𝕄 :=
  (slotM k).view.loc (c : Thread nD τ) ↦[(slotM k).view.set]{q} f

instance slotPts_storable (k : Fin 4) (c : Dev nD) (q) (f) : BI.Storable (upEmb : UEmb _ 𝕄) (slotPts (F := F) k c q f) := by
  unfold slotPts; infer_instance

theorem slotPts_congr (k : Fin 4) (c : Dev nD) (q) {f g : (cc0_scratch0 : Ref sig .tc).ty.Contents (Elt F)} (h : ∀ i ∈ slotSet k, f i = g i) :
    (slotPts k c q f : sProp 𝕄) = slotPts k c q g := by
  unfold slotPts; exact pointsTo_congr h

/-- A slot at a share is the slot at its two halves. -/
theorem slot_halves (k : Fin 4) (c : Dev nD) (q : PosShare TreeShare) (f) :
    (slotPts k c q f : sProp 𝕄) ⊣⊢ iprop(slotPts k c q.left f ∗ slotPts k c q.right f) := by
  unfold slotPts; exact pointsTo_share (PosShare.mem_left_op_right q)

/-- The whole buffer is its four slots. -/
theorem comm_slots (c : Dev nD) (q : PosShare TreeShare) (f : (cc0_scratch0 : Ref sig .tc).ty.Contents (Elt F)) :
    ((((c : Thread nD τ).loc cc0_scratch0) ↦{q} f : sProp 𝕄))
      = iprop(slotPts 0 c q f ∗ slotPts 1 c q f ∗ slotPts 2 c q f ∗ slotPts 3 c q f) := by
  have h := pointsTo_biUnion (Val := Elt F) (ℓ := (c : Thread nD τ).loc cc0_scratch0) (q := q) (f := f) (Ix := Unit) (Name := ℕ) (U := UU) (Lvl := ℕ) (Finset.univ : Finset (Fin 4)) slotSet
    (fun _ _ _ _ hkk => slots_disjoint hkk)
  rw [slots_cover] at h
  rw [h, bigSep_univ_eq_bigSepL [0, 1, 2, 3] (by decide) (by decide)]
  simp only [bigSepL_cons_cons, bigSepL_singleton]
  rfl

/-- What lands: slot 0 of `c`, copied into slot `k + 1` of the device `k + 1` places on, is that device's slot as it should be. -/
theorem landed (c : Dev nD) (k : Fin 3) (fd : (cc0_scratch0 : Ref sig .tc).ty.Contents (Elt F)) :
    ∀ i ∈ slotSet k.succ, (slotM k.succ).view.write (Elt F) fd ((slotM 0).view.read (Elt F) (comm part c)) Finset.univ i = comm part (shift c k) i := by
  intro i hi
  obtain ⟨x, -, rfl⟩ := Finset.mem_map.1 hi
  refine (View.write_emb_of_mem (v := (slotM k.succ).view) (Val := Elt F) fd _ (Finset.mem_univ x)).trans ?_
  show part (src c ((show S4x256x2.Idx from (slotM 0).view.emb x) 0)) (low ((slotM 0).view.emb x))
    = part (src (shift c k) ((show S4x256x2.Idx from (slotM k.succ).view.emb x) 0)) (low ((slotM k.succ).view.emb x))
  rw [(slot_emb 0 x).1, (slot_emb 0 x).2, (slot_emb k.succ x).1, (slot_emb k.succ x).2, src_zero, src_shift]

/-- What the store leaves in slot 0. -/
theorem stored (c : Dev nD) (fd : (cc0_scratch0 : Ref sig .tc).ty.Contents (Elt F)) :
    ∀ i ∈ slotSet 0, (commM.access (slotRect 0)).write (Elt F) fd (part c) Finset.univ i = comm part c i := by
  intro i hi
  rw [slotSet_eq] at hi
  have hi' : i ∈ (commM.access (slotRect 0)).set := by
    show i ∈ ((View.whole cc0_scratch0).slice (slotRect 0)).set
    rw [View.set_slice_whole]; exact hi
  obtain ⟨y, -, rfl⟩ := Finset.mem_map.1 hi'
  refine (View.write_emb_of_mem (v := commM.access (slotRect 0)) (Val := Elt F) fd _ (Finset.mem_univ y)).trans ?_
  show part c y = part (src c ((show S4x256x2.Idx from (commM.access (slotRect 0)).emb y) 0)) (low ((commM.access (slotRect 0)).emb y))
  rw [(store_emb y).1, (store_emb y).2, src_zero]

end Contents

/-! ## The schedule -/

section Schedule

variable (part : Dev nD → Vec F S1x256x2 .f32)

/-- What a barrier unit named `k` brings device `c`: the slot it will write on the device `k + 1` places on, and that the
    receive cell of that slot is open. -/
def barPay (c : Dev nD) (k : Fin 3) : sProp 𝕄 :=
  iprop((∃ f, slotPts k.succ (shift c k) fullShare f) ∗ reached ER (recvCell (shift c k) k) 0)

/-- The share of slot 0 that copy `k` reads at; the left half stays with the device. -/
abbrev sendShare : Fin 3 → PosShare TreeShare
  | 0 => fullShare.right.left
  | 1 => fullShare.right.right.left
  | 2 => fullShare.right.right.right

/-- Every cell's one round: three units at a barrier cell, one copy's credit at a send or a receive cell. -/
def exRd : Rounds.Schedule (GSem nD τ sig) (Fin 3) 𝕄 where
  duties g r := if r = 0 ∧ g.1.2 = .tc then
      (match g.2 with
        | .reg _ => Finset.univ
        | .dma _ => {0})
    else ∅
  unitless _ := False
  amount g _ _ := match g.2 with
    | .reg _ => 1
    | .dma _ => N
  payload g _ d := match g.2 with
    | .reg _ => barPay g.1.1 d
    | .dma q => if h : q.val < 4 then iprop(emp)
      else if h : q.val < 7 then slotPts 0 g.1.1 (sendShare ⟨q.val - 4, by omega⟩) (comm part g.1.1)
      else slotPts (Fin.succ ⟨q.val - 7, by have : q.val < 10 := q.isLt; omega⟩) g.1.1 fullShare (comm part g.1.1)
  amount_pos g _ _ _ := by
    split
    · exact Nat.one_pos
    · exact N_pos

instance exRd_payload_storable (g : GSem nD τ sig) (r : ℕ) (d : Fin 3) :
    BI.Storable (upEmb : UEmb _ 𝕄) ((exRd part).payload g r d) := by
  dsimp only [exRd]
  unfold barPay
  (repeat' split) <;> infer_instance

variable (c : Dev nD) (k : Fin 3)

theorem duties_bar : (exRd part).duties (barCell c) 0 = Finset.univ := by dsimp only [exRd]; exact if_pos ⟨rfl, rfl⟩
theorem duties_dma (q : DmaSem sig) : (exRd part).duties ((c : Thread nD τ), .dma q) 0 = {0} := by dsimp only [exRd]; exact if_pos ⟨rfl, rfl⟩
theorem duties_later (g : GSem nD τ sig) : ∀ r, 1 ≤ r → (exRd part).duties g r = ∅ := fun r hr => if_neg (fun h => by omega)

theorem amount_bar (d : Fin 3) : (exRd part).amount (barCell c) 0 d = 1 := rfl
theorem amount_dma (q : DmaSem sig) (d : Fin 3) : (exRd part).amount ((c : Thread nD τ), .dma q) 0 d = N := rfl

theorem expect_bar : (exRd part).expect (barCell c) 0 = 3 := by
  unfold Schedule.expect Schedule.amountOf
  rw [duties_bar, Finset.sum_congr rfl fun d _ => amount_bar part c d]; rfl
theorem expect_dma (q : DmaSem sig) : (exRd part).expect ((c : Thread nD τ), .dma q) 0 = N := by
  unfold Schedule.expect Schedule.amountOf
  rw [duties_dma, Finset.sum_singleton, amount_dma]

theorem payload_bar (d : Fin 3) : (exRd part).payload (barCell c) 0 d = barPay c d := rfl
theorem payload_send (d : Fin 3) : (exRd part).payload (sendCell c k) 0 d = slotPts 0 c (sendShare k) (comm part c) := by
  fin_cases k <;> rfl
theorem payload_recv (d : Fin 3) : (exRd part).payload (recvCell c k) 0 d = slotPts k.succ c fullShare (comm part c) := by
  fin_cases k <;> rfl

theorem rest_bar : bigSep ((exRd part).duties (barCell c) 0 \ ∅) (fun d => (exRd part).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_dma (q : DmaSem sig) :
    bigSep ((exRd part).duties ((c : Thread nD τ), .dma q) 0 \ ∅) (fun d => (exRd part).payload ((c : Thread nD τ), .dma q) 0 d)
      = (exRd part).payload ((c : Thread nD τ), .dma q) 0 0 := by
  rw [Finset.sdiff_empty, duties_dma, bigSep_singleton]

end Schedule

/-! ## The invariants, known to every device -/

/-- The seven semaphores a device's cells are at: the six of the copies, then the barrier's. -/
abbrev ownSem : Fin 6 → SemLoc sig := fun
  | 0 => .dma (sendS 0) | 1 => .dma (sendS 1) | 2 => .dma (sendS 2)
  | 3 => .dma (recvS 0) | 4 => .dma (recvS 1) | 5 => .dma (recvS 2)
theorem ownSem_inj : Function.Injective ownSem := by decide
theorem ownSem_ne_bar : ∀ k : Fin 6, ownSem k ≠ .reg barS := by decide

theorem dev_of_cell {c c' : Dev nD} {s s' : SemLoc sig} (h : (((c : Thread nD τ), s) : GSem nD τ sig) = ((c' : Thread nD τ), s')) : c = c' :=
  congrArg (fun g : GSem nD τ sig => g.1.1) h

def barEmb : Dev nD ↪ GSem nD τ sig := ⟨fun c => barCell c, fun _ _ h => dev_of_cell h⟩
def dmaEmb : Dev nD × Fin 6 ↪ GSem nD τ sig :=
  ⟨fun ck => ((ck.1 : Thread nD τ), ownSem ck.2), fun _ _ h => Prod.ext (dev_of_cell h) (ownSem_inj (congrArg Prod.snd h))⟩

/-- The barrier cells, live from the start; the copies' cells, opened by their device when it enters the kernel. -/
abbrev barCells : Finset (GSem nD τ sig) := Finset.univ.map barEmb
abbrev dmaCells : Finset (GSem nD τ sig) := Finset.univ.map dmaEmb

theorem bar_mem (c : Dev nD) : barCell c ∈ barCells ∪ dmaCells :=
  Finset.mem_union_left _ (Finset.mem_map_of_mem barEmb (Finset.mem_univ c))
theorem send_mem (c : Dev nD) (k : Fin 3) : sendCell c k ∈ barCells ∪ dmaCells := by
  refine Finset.mem_union_right _ (Finset.mem_map.2 ?_)
  fin_cases k
  · exact ⟨(c, 0), Finset.mem_univ _, rfl⟩
  · exact ⟨(c, 1), Finset.mem_univ _, rfl⟩
  · exact ⟨(c, 2), Finset.mem_univ _, rfl⟩
theorem recv_mem (c : Dev nD) (k : Fin 3) : recvCell c k ∈ barCells ∪ dmaCells := by
  refine Finset.mem_union_right _ (Finset.mem_map.2 ?_)
  fin_cases k
  · exact ⟨(c, 3), Finset.mem_univ _, rfl⟩
  · exact ⟨(c, 4), Finset.mem_univ _, rfl⟩
  · exact ⟨(c, 5), Finset.mem_univ _, rfl⟩

section Records

variable (part : Dev nD → Vec F S1x256x2 .f32) (κ : GSem nD τ sig → ℕ)

/-- Every cell's invariant, under one naming, and that every barrier cell is at its first round. -/
def records : sProp 𝕄 :=
  iprop((bigSep (barCells ∪ dmaCells) fun g => cellInv ER (exRd part) (κ g) g) ∗ bigSep barCells fun g => reached ER g 0)

instance records_persistent : BI.Persistent (records part κ) := by unfold records; infer_instance

theorem records_inv {g : GSem nD τ sig} (hg : g ∈ barCells ∪ dmaCells) : records part κ ⊢ cellInv ER (exRd part) (κ g) g := by
  unfold records
  have h : (bigSep (barCells ∪ dmaCells) fun g => (cellInv ER (exRd part) (κ g) g : sProp 𝕄)) ⊢ cellInv ER (exRd part) (κ g) g := bigSep_elim hg
  iintro ⟨HI, -⟩
  iapply h
  iexact HI

theorem records_bar (c : Dev nD) : records part κ ⊢ reached ER (barCell c) 0 := by
  unfold records
  have h : (bigSep barCells fun g => (reached ER g 0 : sProp 𝕄)) ⊢ reached ER (barCell c) 0 :=
    bigSep_elim (Finset.mem_map_of_mem barEmb (Finset.mem_univ c))
  iintro ⟨-, HR⟩
  iapply h
  iexact HR

end Records

/-! ## What a device owes from the start, and the order of the waits -/

/-- A device owes three copies' credits to the others' receive cells and one unit to each of their barrier cells. The tallies
    are named by what is still to be paid, the barrier units being paid first. -/
def owedRecv3 (c : Dev nD) : CellTallies nD τ sig Unit := 0 + tallyAt (recvCell (shift c 2) 2) () N
def owedRecv2 (c : Dev nD) : CellTallies nD τ sig Unit := owedRecv3 c + tallyAt (recvCell (shift c 1) 1) () N
def owedRecv (c : Dev nD) : CellTallies nD τ sig Unit := owedRecv2 c + tallyAt (recvCell (shift c 0) 0) () N
def owedBar1 (c : Dev nD) : CellTallies nD τ sig Unit := owedRecv c + tallyAt (barCell (shift c 2)) () 1
def owedBar2 (c : Dev nD) : CellTallies nD τ sig Unit := owedBar1 c + tallyAt (barCell (shift c 1)) () 1
def owedAll (c : Dev nD) : CellTallies nD τ sig Unit := owedBar2 c + tallyAt (barCell (shift c 0)) () 1

def L (g : GSem nD τ sig) : Finset Unit := if g.1.2 = .tc then {()} else ∅
/-- The barrier cells below the receive cells; nothing is owed at any other cell. -/
def lv (g : GSem nD τ sig) (_ : Unit) : ℕ := match g.2 with
  | .reg _ => 1
  | .dma q => if q.val < 7 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (k : Fin 3) : lv (recvCell c k) () = 2 := if_neg (by show ¬ (7 + k.val < 7); omega)

theorem pos_add {A B : CellTallies nD τ sig Unit} {g : GSem nD τ sig} {u : Unit} (h : 0 < (A + B) g u) : 0 < A g u ∨ 0 < B g u := by
  rw [Pi.add_apply, Finsupp.add_apply] at h; omega
theorem pos_tallyAt {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem owedRecv_pos {c : Dev nD} {g : GSem nD τ sig} {u : Unit} (h : 0 < owedRecv c g u) : ∃ k, g = recvCell (shift c k) k := by
  unfold owedRecv owedRecv2 owedRecv3 at h
  rw [zero_add] at h
  rcases pos_add h with h | h
  · rcases pos_add h with h | h
    · exact ⟨2, pos_tallyAt h⟩
    · exact ⟨1, pos_tallyAt h⟩
  · exact ⟨0, pos_tallyAt h⟩
theorem owedAll_pos {c : Dev nD} {g : GSem nD τ sig} {u : Unit} (h : 0 < owedAll c g u) :
    (∃ k, g = recvCell (shift c k) k) ∨ ∃ k, g = barCell (shift c k) := by
  unfold owedAll owedBar2 owedBar1 at h
  rcases pos_add h with h | h
  · rcases pos_add h with h | h
    · rcases pos_add h with h | h
      · exact .inl (owedRecv_pos h)
      · exact .inr ⟨2, pos_tallyAt h⟩
    · exact .inr ⟨1, pos_tallyAt h⟩
  · exact .inr ⟨0, pos_tallyAt h⟩

/-- Whatever is owed is owed at a level above zero. -/
theorem owedAll_above {c : Dev nD} {g : GSem nD τ sig} {u : Unit} (h : 0 < owedAll c g u) : u ∈ L g ∧ 0 < lv g u := by
  rcases owedAll_pos h with ⟨k, rfl⟩ | ⟨k, rfl⟩
  · exact ⟨by rw [L_tc]; exact Finset.mem_singleton_self _, by rw [lv_recv]; decide⟩
  · exact ⟨by rw [L_tc]; exact Finset.mem_singleton_self _, by rw [lv_bar]; decide⟩

/-- At its barrier wait a device owes only copies, at cells above the barrier cells. -/
theorem mayWait_bar (c : Dev nD) : (levAts L lv : sProp 𝕄) ⊢ MayWait (c : Thread nD τ) (.reg barS) () (owedRecv c) :=
  MayOwe.of_cut (L := L) (lev := lv) 1 (fun p hp => by rw [Finset.mem_singleton.mp hp, L_tc]; exact Finset.mem_singleton_self _)
    (fun g u hg => by obtain ⟨k, rfl⟩ := owedRecv_pos hg; rw [L_tc]; exact Finset.mem_singleton_self _)
    (fun p hp => by rw [Finset.mem_singleton.mp hp, lv_bar])
    (fun g u hg => by obtain ⟨k, rfl⟩ := owedRecv_pos hg; rw [lv_recv]; decide)

end Cert.KernelIdeal.Exchange
-- ==== Proof.Body.lean ====
/-
# One device's run through the kernel

`Body.run`: from a device's staged arguments and its share of the exchange, the kernel body ends with the four slots holding
every device's partial sums, the result buffer holding the loss computed from them, every semaphore at zero and nothing owed.
Each signal, copy and wait of the body goes by one lemma proved once for every slot.
-/
module

public import proofs.«01_k».proof.Proof.Protocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The steps of the exchange, for every slot -/

section Steps

variable (part : Dev nD → Vec F S1x256x2 .f32) (κ : GSem nD τ sig → ℕ) (c : Dev nD)

/-- The signal to the device `j + 1` places on: it hands over the slot that device will write here. -/
theorem wp_hand (j : Fin 3) (n : Dev nD) (hn : n = shift c j) {α : Type} {Q : α → sProp 𝕄} {k : PUnit → Prog (TpuEff nD τ sig (Elt F) Λ₀ .tc) α}
    (O : CellTallies nD τ sig Unit) (W : Waits sig Unit) (f : (cc0_scratch0 : Ref sig .tc).ty.Contents (Elt F)) :
    iprop(records part κ ∗ owes (c : Thread nD τ) (O + tallyAt (barCell (shift c j)) () 1) W ∗ dutyTok ER (barCell (shift c j)) 0 j.rev
        ∗ slotPts j.rev.succ c fullShare f ∗ reached ER (recvCell c j.rev) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS (1#32).toInt) k) Q) := by
  subst hn
  iintro ⟨#HR, HO, Ht, Hs, Hr⟩ Hk
  iapply (Rounds.wp_signal 𝒱₀ ER (exRd part) (c : Thread nD τ) none (dst := (shift c j : Thread nD τ)) (κ := κ (barCell (shift c j)))
      (d := j.rev) (by rw [duties_bar]; exact Finset.mem_univ _) ((amount_bar part (shift c j) j.rev).trans (by decide)) () O rfl) $$ [HO Ht Hs Hr]
  · isplitr; · iapply (records_inv part κ (bar_mem (shift c j))); iexact HR
    isplitl [HO]; · iexact HO
    isplitl [Ht]; · iexact Ht
    isplitl [Hs Hr]
    · rw [payload_bar]; unfold barPay; rw [shift_rev]
      isplitl [Hs]; · iexists f; iexact Hs
      iexact Hr
    · iapply (records_bar part κ (shift c j)); iexact HR
  iexact Hk

theorem credit_slot (i : Fin 4) : (slotM i).view.dmaCredit = N := rfl
theorem amount_slot (j : Fin 3) : (slotM j.succ).view.amount (.dma (recvS j)) = N := rfl

/-- Copy `j`, of slot 0 into slot `j + 1` of the device `j + 1` places on. -/
theorem wp_copy_slot (j : Fin 3) (n : Dev nD) (hn : n = shift c j) {hsc : (slotM j.succ : Memref sig (Dev.tc n : Thread nD τ).2.kind .vmem S256x2 .f32).view.ref.isScScratch = false}
    {hsrc : (slotM 0).view.WordExact} {hdst : (slotM j.succ).view.WordExact}
    {hsem : DmaTarget.Typed .vmem (.dma (recvS j)) (.remote (Dev.tc n : Thread nD τ) (slotM j.succ) (.dma (sendS j)) hsc)}
    {α : Type} {Q : α → sProp 𝕄} {k : PUnit → Prog (TpuEff nD τ sig (Elt F) Λ₀ .tc) α}
    (O : CellTallies nD τ sig Unit) (W : Waits sig Unit) (f : (cc0_scratch0 : Ref sig .tc).ty.Contents (Elt F)) :
    iprop(records part κ ∗ slotPts 0 c (sendShare j) (comm part c) ∗ slotPts j.succ (shift c j) fullShare f
        ∗ owes (c : Thread nD τ) (O + tallyAt (recvCell (shift c j) j) () N) W
        ∗ dutyTok ER (sendCell c j) 0 0 ∗ reached ER (sendCell c j) 0 ∗ dutyTok ER (recvCell (shift c j) j) 0 0 ∗ reached ER (recvCell (shift c j) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM j.succ) (.dma (sendS j)) hsc) (.dma (recvS j)) hsrc hdst hsem) k) Q) := by
  subst hn
  iintro ⟨#HR, Hs, Hd, HO, HtS, HrS, HtV, HrV⟩ Hk
  unfold slotPts
  iapply (Rounds.wp_send_pointsTo 𝒱₀ ER (exRd part) (c : Thread nD τ) none (κ₁ := κ (sendCell c j)) (κ₂ := κ (recvCell (shift c j) j))
    (r₁ := 0) (r₂ := 0) (d₁ := 0) (d₂ := 0) (fd := f)
    (by rw [duties_dma]; exact Finset.mem_singleton_self _) (by rw [duties_dma]; exact Finset.mem_singleton_self _)
    () () N (amount_slot j) (amount_dma part c (sendS j) 0) (amount_dma part (shift c j) (recvS j) 0) O rfl (W := W)
    (by rw [payload_send]; exact BI.Entails.refl _)
    (by rw [payload_recv, ← slotPts_congr j.succ (shift c j) fullShare (landed part c j f)]; exact BI.Entails.refl _)) $$ [Hs Hd HO HtS HrS HtV HrV]
  · isplitr; · iapply (records_inv part κ (send_mem c j)); iexact HR
    isplitr; · iapply (records_inv part κ (recv_mem (shift c j) j)); iexact HR
    isplitl [Hs]; · iexact Hs
    isplitl [Hd]; · iexact Hd
    isplitl [HO]; · iexact HO
    isplitl [HtS]; · iexact HtS
    isplitl [HrS]; · iexact HrS
    isplitl [HtV]; · iexact HtV
    iexact HrV
  iexact Hk

/-- A wait for one copy's credit at one of the device's own cells, owing nothing: the cell's payload comes back. -/
theorem wp_wait_copy (q : DmaSem sig) (hq : ((c : Thread nD τ), SemLoc.dma q) ∈ barCells ∪ dmaCells) (P : sProp 𝕄)
    (hP : (exRd part).payload ((c : Thread nD τ), .dma q) 0 0 = P) (W : Waits sig Unit)
    (i i' : Fin 4) {hsrc : (slotM i).view.WordExact} {hdst : (slotM i').view.WordExact}
    {α : Type} {Q : α → sProp 𝕄} {k : PUnit → Prog (TpuEff nD τ sig (Elt F) Λ₀ .tc) α} :
    iprop(records part κ ∗ cred (tallyAt ((c : Thread nD τ), SemLoc.dma q) () N) ∗ owes (c : Thread nD τ) 0 W ∗ atPos ER ((c : Thread nD τ), .dma q) 0 ∅ 0)
      ⊢ iprop(((owes (c : Thread nD τ) 0 (insert (SemLoc.dma q, ()) W) ∗ atPos ER ((c : Thread nD τ), .dma q) (0 + 1) ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (slotM i) (slotM i') hsrc hdst) k) Q) := by
  iintro ⟨#HR, Hc, HO, Hat⟩ Hk
  iapply (Rounds.wp_wait_rest_token 𝒱₀ ER (exRd part) (c : Thread nD τ) none (κ := κ ((c : Thread nD τ), SemLoc.dma q))
      (wpE_waitDma2_eq 𝒱₀ (c : Thread nD τ) none Set.univ) (Set.mem_univ _) () (O := 0) (W := W) (R := 0) (m := 0) (T := ∅)
      (by rw [Nat.zero_add, credit_slot, expect_dma part c q])) $$ [Hc HO Hat]
  · isplitr; · iapply (records_inv part κ hq); iexact HR
    isplitl [Hc]; · rw [credit_slot]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq ((rest_dma part c q).trans hP)); iexact Hpay

/-- The barrier wait: the three slots to write come with it. -/
theorem wp_wait_bar {α : Type} {Q : α → sProp 𝕄} {k : PUnit → Prog (TpuEff nD τ sig (Elt F) Λ₀ .tc) α} (W : Waits sig Unit) :
    iprop(records part κ ∗ cred (tallyAt (barCell c) () 3) ∗ owes (c : Thread nD τ) (owedRecv c) W ∗ levAts L lv ∗ atPos ER (barCell c) 0 ∅ 0)
      ⊢ iprop(((owes (c : Thread nD τ) (owedRecv c) (insert (SemLoc.reg barS, ()) W) ∗ atPos ER (barCell c) (0 + 1) ∅ 0
              ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toInt) k) Q) := by
  iintro ⟨#HR, Hc, HO, Hlev, Hat⟩ Hk
  iapply (Rounds.wp_wait_rest_token 𝒱₀ ER (exRd part) (c : Thread nD τ) none (κ := κ (barCell c))
      (wpE_semWait_eq 𝒱₀ (c : Thread nD τ) none Set.univ) (Set.mem_univ _) () (O := owedRecv c) (W := W) (R := 0) (m := 0) (T := ∅)
      (by rw [expect_bar]; decide)) $$ [Hc HO Hlev Hat]
  · isplitr; · iapply (records_inv part κ (bar_mem c)); iexact HR
    isplitl [Hc]; · iexact Hc
    isplitl [HO]; · iexact HO
    isplitl [Hlev]; · iapply (mayWait_bar c); iexact Hlev
    iexact Hat
  iintro ⟨HO, Hat, -, Hpay⟩
  iapply Hk
  isplitl [HO]; · iexact HO
  isplitl [Hat]; · iexact Hat
  iapply (Entails.of_eq (rest_bar part c)); iexact Hpay

/-- A finished cell closes, its counter at zero. -/
theorem close_cell {g : GSem nD τ sig} (hg : g ∈ barCells ∪ dmaCells) :
    iprop(records part κ ∗ atPos ER g (0 + 1) ∅ 0) ⊢ (|={Set.univ}=> semVal g 0 : sProp 𝕄) := by
  iintro ⟨#HR, Hat⟩
  iapply (Rounds.cell_close ER (exRd part) (Set.mem_univ (κ g)) (fun h => h) (R := 0 + 1) (duties_later part g))
  isplitr; · iapply (records_inv part κ hg); iexact HR
  iexact Hat

theorem slot0_on : commM.view.setOn (slotRect 0).toLoadRect.set ⊆ (slotM 0).view.set := by
  intro i hi
  obtain ⟨y, hy, rfl⟩ := Finset.mem_map.1 hi
  show _ ∈ slotSet 0
  rw [slotSet_eq]; exact hy

/-- The store of a device's own partial sums in slot 0 (the load of the slot before it reads a value nothing uses). -/
theorem wp_store_own {α : Type} {Q : α → sProp 𝕄} {k : PUnit → Prog (TpuEff nD τ sig (Elt F) Λ₀ .tc) α}
    {hl : commM.view.LoadsAt (slotRect 0).toLoadRect} {hx : (commM.access (slotRect 0)).Stores Finset.univ} {hm}
    (f : (cc0_scratch0 : Ref sig .tc).ty.Contents (Elt F)) :
    slotPts 0 c fullShare f
      ⊢ iprop((slotPts 0 c fullShare (comm part c) -∗ wp frame (wpE (defs₀ (F := F)) 𝒱₀ (c : Thread nD τ) none) Set.univ (k ⟨⟩) Q)
          -∗ wp frame (wpE (defs₀ (F := F)) 𝒱₀ (c : Thread nD τ) none) Set.univ
              (.op (.load commM (slotRect 0).toLoadRect hl) fun _ => .op (.store commM (slotRect 0) (part c) Finset.univ hx hm) k) Q) := by
  iintro Hs Hk
  unfold slotPts
  iapply (wp_load 𝒱₀ (c : Thread nD τ) none Set.univ (m := commM) slot0_on) $$ Hs; iintro Hs
  iapply (wp_store 𝒱₀ (c : Thread nD τ) none Set.univ (m := commM) (r := slotRect 0) (Mk := Finset.univ) (S := (slotM 0).view.set)
    (by rw [View.setOn_univ]; show ((View.whole cc0_scratch0).slice (slotRect 0)).set ⊆ slotSet 0; rw [View.set_slice_whole, slotSet_eq])) $$ Hs; iintro Hs
  iapply Hk
  ihave Hs' := (Entails.of_eq (slotPts_congr 0 c fullShare (stored part c f))) $$ [Hs]
  · unfold slotPts; iexact Hs
  unfold slotPts; iexact Hs'

/-- A load that reads a known value. -/
theorem wp_load_known {cs : CoreSpace} {s : Shape} {e : EltTy} {m : Memref sig .tc cs s e} {r : LoadRect s} {hl : m.view.LoadsAt r} {q : PosShare TreeShare}
    {f : Buf (Elt F) (m.view.loc (c : Thread nD τ))} {α : Type} {Q : α → sProp 𝕄} {k : (r.shape.Idx → Elt F e) → Prog (TpuEff nD τ sig (Elt F) Λ₀ .tc) α}
    (v : r.shape.Idx → Elt F e) (hv : m.view.readAt (Elt F) r f = v) :
    (m.view.loc (c : Thread nD τ) ↦{q} f)
      ⊢ iprop(((m.view.loc (c : Thread nD τ) ↦{q} f) -∗ wp frame (wpE (defs₀ (F := F)) 𝒱₀ (c : Thread nD τ) none) Set.univ (k v) Q)
          -∗ wp frame (wpE (defs₀ (F := F)) 𝒱₀ (c : Thread nD τ) none) Set.univ (.op (.load m r hl) k) Q) := by
  subst hv
  exact wp_load 𝒱₀ (c : Thread nD τ) none Set.univ (m := m) (Finset.subset_univ _)

/-- A store that leaves known contents. -/
theorem wp_store_known {cs : CoreSpace} {s : Shape} {e : EltTy} {m : Memref sig .tc cs s e} {r : Rect s} {w : r.shape.Idx → Elt F e}
    {hx : (m.access r).Stores Finset.univ} {hm} {f : Buf (Elt F) (m.view.loc (c : Thread nD τ))} {α : Type} {Q : α → sProp 𝕄}
    {k : PUnit → Prog (TpuEff nD τ sig (Elt F) Λ₀ .tc) α}
    (v : Buf (Elt F) (m.view.loc (c : Thread nD τ))) (hv : (m.access r).write (Elt F) f w Finset.univ = v) :
    (m.view.loc (c : Thread nD τ) ↦{fullShare} f)
      ⊢ iprop(((m.view.loc (c : Thread nD τ) ↦{fullShare} v) -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  subst hv
  exact wp_store 𝒱₀ (c : Thread nD τ) none Set.univ (m := m) (r := r) (Mk := Finset.univ) (Finset.subset_univ _)

end Steps

/-! ## The body -/

section Run

variable (xs : Dev nD → Vec F S256x512 .bf16) (ws : Dev nD → Vec F S512x4096 .bf16) (ls : Dev nD → Vec F S256x1 .i32)

/-- The partial sums device `c` stores, from the arguments staged on it: per row the sum of the exponentials of its logits, and
    the logit at the row's label where the label is one of its columns. -/
def part (c : Dev nD) : Vec F S1x256x2 .f32 :=
  k0_pay4 (k0_pay1 (xs c) (ws c)) (k0_pay2 (xs c) (ws c)) (k0_pay3 c (ls c)) (iota .tc S256x4096 32 [1] iota_S256x4096_d1_w32)

/-- The loss device `c` computes from its four slots. -/
def loss (c : Dev nD) : Vec F S256x1 .f32 := k0_pay5 (comm (part xs ws ls) c)

/-- A resource for each slot that is copied. -/
abbrev three (Φ : Fin 3 → sProp 𝕄) : sProp 𝕄 := iprop(Φ 0 ∗ Φ 1 ∗ Φ 2)

/-- The tokens device `c` pays with: a barrier unit, a send credit and a receive credit for each slot. -/
def payToks (c : Dev nD) : sProp 𝕄 :=
  iprop(three (fun k => dutyTok ER (barCell (shift c k)) 0 k.rev) ∗ three (fun k => dutyTok ER (sendCell c k) 0 0)
    ∗ three (fun k => dutyTok ER (recvCell (shift c k) k) 0 0))

/-- Device `c`'s positions at its own cells, every one of them open. -/
def positions (c : Dev nD) : sProp 𝕄 :=
  iprop(atPos ER (barCell c) 0 ∅ 0 ∗ three (fun k => atPos ER (sendCell c k) 0 ∅ 0) ∗ three (fun k => atPos ER (recvCell c k) 0 ∅ 0)
    ∗ three (fun k => reached ER (sendCell c k) 0) ∗ three (fun k => reached ER (recvCell c k) 0))

/-- The credits device `c` waits with. -/
def credits (c : Dev nD) : sProp 𝕄 :=
  iprop(cred (tallyAt (barCell c) () 3) ∗ three (fun k => cred (tallyAt (recvCell c k) () N)))

/-- The staged arguments. -/
def staged (c : Dev nD) : sProp 𝕄 :=
  iprop((((c : Thread nD τ).loc cc0_stg0_0) ↦{fullShare} (xs c : (cc0_stg0_0 : Ref sig .tc).ty.Contents (Elt F)))
    ∗ (((c : Thread nD τ).loc cc0_stg1_0) ↦{fullShare} (ws c : (cc0_stg1_0 : Ref sig .tc).ty.Contents (Elt F)))
    ∗ (((c : Thread nD τ).loc cc0_stg2_0) ↦{fullShare} (ls c : (cc0_stg2_0 : Ref sig .tc).ty.Contents (Elt F))))

def bodyPre (κ : GSem nD τ sig → ℕ) (c : Dev nD) (W : Waits sig Unit) : sProp 𝕄 :=
  iprop(records (part xs ws ls) κ ∗ positions c ∗ payToks c ∗ credits c ∗ levAts L lv
    ∗ (∃ f, ((c : Thread nD τ).loc cc0_scratch0) ↦{fullShare} f) ∗ staged xs ws ls c
    ∗ (∃ f, ((c : Thread nD τ).loc cc0_stg3_0) ↦{fullShare} f) ∗ owes (c : Thread nD τ) (owedAll c) W)

/-- The counters of the device's own semaphores, at zero. -/
def closed (c : Dev nD) : sProp 𝕄 :=
  iprop(three (fun k => semVal (sendCell c k) 0) ∗ three (fun k => semVal (recvCell c k) 0))

def bodyPost (c : Dev nD) : sProp 𝕄 :=
  iprop(semVal (barCell c) 0 ∗ closed c ∗ (∃ f, ((c : Thread nD τ).loc cc0_scratch0) ↦{fullShare} f) ∗ staged xs ws ls c
    ∗ (((c : Thread nD τ).loc cc0_stg3_0) ↦{fullShare} (loss xs ws ls c : (cc0_stg3_0 : Ref sig .tc).ty.Contents (Elt F)))
    ∗ ∃ W, owes (c : Thread nD τ) (0 : CellTallies nD τ sig Unit) W)

theorem hz2 : (![0, 0] : Fin 2 → ℕ) = fun _ => 0 := funext fun a => by fin_cases a <;> rfl
theorem hz3 : (![0, 0, 0] : Fin 3 → ℕ) = fun _ => 0 := funext fun a => by fin_cases a <;> rfl

set_option maxHeartbeats 1600000 in
/-- The body, one step after another in program order. -/
theorem run (κ : GSem nD τ sig → ℕ) (c : Dev nD) (W : Waits sig Unit) (Kt : PUnit → sProp 𝕄) :
    iprop(bodyPre xs ws ls κ c W ∗ (bodyPost xs ws ls c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, Prog.bind_assoc, wp_deviceId]
  unfold bodyPre positions payToks credits staged
  iintro ⟨⟨#HR, ⟨HaB, ⟨HaS0, HaS1, HaS2⟩, ⟨HaV0, HaV1, HaV2⟩, ⟨#HrS0, #HrS1, #HrS2⟩, ⟨#HrV0, #HrV1, #HrV2⟩⟩,
    ⟨⟨HtB0, HtB1, HtB2⟩, ⟨HtS0, HtS1, HtS2⟩, ⟨HtV0, HtV1, HtV2⟩⟩, ⟨HcB, ⟨HcV0, HcV1, HcV2⟩⟩, #Hlev, ⟨%f, Hf⟩, ⟨Hx, Hw, Hl⟩, ⟨%g, Ho⟩, HO⟩, Hk⟩
  ihave Hf' := (Entails.of_eq (comm_slots c fullShare f)) $$ Hf
  icases Hf' with ⟨H0, H1, H2, H3⟩
  unfold owedAll
  iapply (wp_hand (part xs ws ls) κ c 0 _ (dev1_eq c) (owedBar2 c) W f) $$ [HO HtB0 H3]
  · isplitr; · iexact HR
    isplitl [HO]; · iexact HO
    isplitl [HtB0]; · iexact HtB0
    isplitl [H3]; · iexact H3
    iexact HrV2
  iintro HO
  unfold owedBar2
  iapply (wp_hand (part xs ws ls) κ c 1 _ (dev2_eq c) (owedBar1 c) W f) $$ [HO HtB1 H2]
  · isplitr; · iexact HR
    isplitl [HO]; · iexact HO
    isplitl [HtB1]; · iexact HtB1
    isplitl [H2]; · iexact H2
    iexact HrV1
  iintro HO
  unfold owedBar1
  iapply (wp_hand (part xs ws ls) κ c 2 _ (dev3_eq c) (owedRecv c) W f) $$ [HO HtB2 H1]
  · isplitr; · iexact HR
    isplitl [HO]; · iexact HO
    isplitl [HtB2]; · iexact HtB2
    isplitl [H1]; · iexact H1
    iexact HrV0
  iintro HO
  -- the staged arguments are read
  iapply (wp_load_known c (m := Memref.whole cc0_stg0_0) _ (Memref.readAt_unit_zero (Elt F) cc0_stg0_0 hz2 _ _)) $$ Hx; iintro Hx
  iapply (wp_load_known c (m := Memref.whole cc0_stg1_0) _ (Memref.readAt_unit_zero (Elt F) cc0_stg1_0 hz2 _ _)) $$ Hw; iintro Hw
  iapply (wp_load_known c (m := Memref.whole cc0_stg2_0) _ (Memref.readAt_unit_zero (Elt F) cc0_stg2_0 hz2 _ _)) $$ Hl; iintro Hl
  -- the partial sums are stored
  iapply (wp_store_own (part xs ws ls) c f) $$ H0; iintro H0
  -- the barrier wait
  iapply (wp_wait_bar (part xs ws ls) κ c W) $$ [HcB HO HaB]
  · isplitr; · iexact HR
    isplitl [HcB]; · iexact HcB
    isplitl [HO]; · iexact HO
    isplitr; · iexact Hlev
    iexact HaB
  unfold barPay
  iintro ⟨HO, HaB, ⟨⟨%f0, Hd0⟩, #HrW0⟩, ⟨⟨%f1, Hd1⟩, #HrW1⟩, ⟨⟨%f2, Hd2⟩, #HrW2⟩⟩
  -- slot 0 is cut into the share kept and the three the copies read at
  ihave H0' := (slot_halves 0 c fullShare _).1 $$ H0; icases H0' with ⟨H0, Hq⟩
  ihave Hq' := (slot_halves 0 c fullShare.right _).1 $$ Hq; icases Hq' with ⟨Hq0, Hq⟩
  ihave Hq' := (slot_halves 0 c fullShare.right.right _).1 $$ Hq; icases Hq' with ⟨Hq1, Hq2⟩
  unfold owedRecv
  iapply (wp_copy_slot (part xs ws ls) κ c 0 _ (dev4_eq c) (owedRecv2 c) _ f0) $$ [Hq0 Hd0 HO HtS0 HtV0]
  · isplitr; · iexact HR
    isplitl [Hq0]; · iexact Hq0
    isplitl [Hd0]; · iexact Hd0
    isplitl [HO]; · iexact HO
    isplitl [HtS0]; · iexact HtS0
    isplitr; · iexact HrS0
    isplitl [HtV0]; · iexact HtV0
    iexact HrW0
  iintro ⟨HcS0, HO⟩
  unfold owedRecv2
  iapply (wp_copy_slot (part xs ws ls) κ c 1 _ (dev5_eq c) (owedRecv3 c) _ f1) $$ [Hq1 Hd1 HO HtS1 HtV1]
  · isplitr; · iexact HR
    isplitl [Hq1]; · iexact Hq1
    isplitl [Hd1]; · iexact Hd1
    isplitl [HO]; · iexact HO
    isplitl [HtS1]; · iexact HtS1
    isplitr; · iexact HrS1
    isplitl [HtV1]; · iexact HtV1
    iexact HrW1
  iintro ⟨HcS1, HO⟩
  unfold owedRecv3
  iapply (wp_copy_slot (part xs ws ls) κ c 2 _ (dev6_eq c) 0 _ f2) $$ [Hq2 Hd2 HO HtS2 HtV2]
  · isplitr; · iexact HR
    isplitl [Hq2]; · iexact Hq2
    isplitl [Hd2]; · iexact Hd2
    isplitl [HO]; · iexact HO
    isplitl [HtS2]; · iexact HtS2
    isplitr; · iexact HrS2
    isplitl [HtV2]; · iexact HtV2
    iexact HrW2
  iintro ⟨HcS2, HO⟩
  -- the three receives: slots 1, 2, 3 hold the other devices' partial sums
  iapply (wp_wait_copy (part xs ws ls) κ c (recvS 0) (recv_mem c 0) (slotPts 1 c fullShare (comm (part xs ws ls) c))
    (payload_recv _ c 0 0) _ 0 1) $$ [HcV0 HO HaV0]
  · isplitr; · iexact HR
    isplitl [HcV0]; · iexact HcV0
    isplitl [HO] <;> iassumption
  iintro ⟨HO, HaV0, H1⟩
  iapply (wp_wait_copy (part xs ws ls) κ c (recvS 1) (recv_mem c 1) (slotPts 2 c fullShare (comm (part xs ws ls) c))
    (payload_recv _ c 1 0) _ 0 2) $$ [HcV1 HO HaV1]
  · isplitr; · iexact HR
    isplitl [HcV1]; · iexact HcV1
    isplitl [HO] <;> iassumption
  iintro ⟨HO, HaV1, H2⟩
  iapply (wp_wait_copy (part xs ws ls) κ c (recvS 2) (recv_mem c 2) (slotPts 3 c fullShare (comm (part xs ws ls) c))
    (payload_recv _ c 2 0) _ 0 3) $$ [HcV2 HO HaV2]
  · isplitr; · iexact HR
    isplitl [HcV2]; · iexact HcV2
    isplitl [HO] <;> iassumption
  iintro ⟨HO, HaV2, H3⟩
  -- the four slots at the share kept are the whole buffer, which is read
  ihave H1' := (slot_halves 1 c fullShare _).1 $$ H1; icases H1' with ⟨H1, H1r⟩
  ihave H2' := (slot_halves 2 c fullShare _).1 $$ H2; icases H2' with ⟨H2, H2r⟩
  ihave H3' := (slot_halves 3 c fullShare _).1 $$ H3; icases H3' with ⟨H3, H3r⟩
  ihave Hf := (Entails.of_eq (comm_slots c fullShare.left (comm (part xs ws ls) c)).symm) $$ [H0 H1 H2 H3]
  · isplitl [H0]; · iexact H0
    isplitl [H1]; · iexact H1
    isplitl [H2] <;> iassumption
  iapply (wp_load_known c (m := Memref.whole cc0_scratch0) _ (Memref.readAt_unit_zero (Elt F) cc0_scratch0 hz3 _ _)) $$ Hf; iintro Hf
  iapply (wp_load_known c (m := Memref.whole cc0_stg3_0) _ (Memref.readAt_unit_zero (Elt F) cc0_stg3_0 hz2 _ _)) $$ Ho; iintro Ho
  iapply (wp_store_known c (m := Memref.whole cc0_stg3_0) _ (Memref.write_access_unit_zero_univ (Elt F) cc0_stg3_0 hz2 _ _ _)) $$ Ho; iintro Ho
  -- the three sends return the shares of slot 0
  iapply (wp_wait_copy (part xs ws ls) κ c (sendS 0) (send_mem c 0) (slotPts 0 c fullShare.right.left (comm (part xs ws ls) c))
    (payload_send _ c 0 0) _ 1 0) $$ [HcS0 HO HaS0]
  · isplitr; · iexact HR
    isplitl [HcS0]; · iexact HcS0
    isplitl [HO] <;> iassumption
  iintro ⟨HO, HaS0, Hq0⟩
  iapply (wp_wait_copy (part xs ws ls) κ c (sendS 1) (send_mem c 1) (slotPts 0 c fullShare.right.right.left (comm (part xs ws ls) c))
    (payload_send _ c 1 0) _ 2 0) $$ [HcS1 HO HaS1]
  · isplitr; · iexact HR
    isplitl [HcS1]; · iexact HcS1
    isplitl [HO] <;> iassumption
  iintro ⟨HO, HaS1, Hq1⟩
  iapply (wp_wait_copy (part xs ws ls) κ c (sendS 2) (send_mem c 2) (slotPts 0 c fullShare.right.right.right (comm (part xs ws ls) c))
    (payload_send _ c 2 0) _ 3 0) $$ [HcS2 HO HaS2]
  · isplitr; · iexact HR
    isplitl [HcS2]; · iexact HcS2
    isplitl [HO] <;> iassumption
  iintro ⟨HO, HaS2, Hq2⟩
  -- the scratch buffer whole again
  ihave Hq := (slot_halves 0 c fullShare.right.right _).2 $$ [Hq1 Hq2]
  · isplitl [Hq1] <;> iassumption
  ihave Hq' := (slot_halves 0 c fullShare.right _).2 $$ [Hq0 Hq]
  · isplitl [Hq0] <;> iassumption
  ihave Hfr := (Entails.of_eq (comm_slots c fullShare.right (comm (part xs ws ls) c)).symm) $$ [Hq' H1r H2r H3r]
  · isplitl [Hq']; · iexact Hq'
    isplitl [H1r]; · iexact H1r
    isplitl [H2r] <;> iassumption
  ihave Hff := (pointsTo_share (PosShare.mem_left_op_right fullShare)).2 $$ [Hf Hfr]
  · isplitl [Hf] <;> iassumption
  -- the seven cells close
  imod (close_cell (part xs ws ls) κ (bar_mem c)) $$ [HaB] with HzB
  · isplitr; · iexact HR
    iexact HaB
  imod (close_cell (part xs ws ls) κ (send_mem c 0)) $$ [HaS0] with HzS0
  · isplitr; · iexact HR
    iexact HaS0
  imod (close_cell (part xs ws ls) κ (send_mem c 1)) $$ [HaS1] with HzS1
  · isplitr; · iexact HR
    iexact HaS1
  imod (close_cell (part xs ws ls) κ (send_mem c 2)) $$ [HaS2] with HzS2
  · isplitr; · iexact HR
    iexact HaS2
  imod (close_cell (part xs ws ls) κ (recv_mem c 0)) $$ [HaV0] with HzV0
  · isplitr; · iexact HR
    iexact HaV0
  imod (close_cell (part xs ws ls) κ (recv_mem c 1)) $$ [HaV1] with HzV1
  · isplitr; · iexact HR
    iexact HaV1
  imod (close_cell (part xs ws ls) κ (recv_mem c 2)) $$ [HaV2] with HzV2
  · isplitr; · iexact HR
    iexact HaV2
  rw [wp_ret]; imodintro
  iapply Hk
  unfold bodyPost closed staged
  isplitl [HzB]; · iexact HzB
  isplitl [HzS0 HzS1 HzS2 HzV0 HzV1 HzV2]
  · isplitl [HzS0 HzS1 HzS2]
    · isplitl [HzS0]; · iexact HzS0
      isplitl [HzS1] <;> iassumption
    · isplitl [HzV0]; · iexact HzV0
      isplitl [HzV1] <;> iassumption
  isplitl [Hff]; · iexists _; iexact Hff
  isplitl [Hx Hw Hl]
  · isplitl [Hx]; · iexact Hx
    isplitl [Hw] <;> iassumption
  isplitl [Ho]; · iexact Ho
  iexists _; iexact HO

end Run

end Cert.KernelIdeal.Exchange
-- ==== Proof.Region.lean ====
/-
# The kernel's region of @main

The region's proof data over the exchange: the arguments staged whole, the result buffer left holding the loss, everything owed
at the entry paid at the exit. `exchange` is the region as one segment of @main, entered with its share of the exchange's ghost
state and left with its barrier counter at zero.
-/
module

public import proofs.«01_k».proof.Proof.Body
public import proofs.«01_k».proof.Proof.Gen.KernelIdeal.Frame
public import Idealize.ShloMosaic.Lib.Pipeline.RegionTalk
public import Idealize.ShloMosaic.Lib.Pipeline.RegionArraysS
public import Idealize.ShloMosaic.Lib.Pipeline.FrameTail

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## The region's data -/

/-- The arguments as staged on device `c`. -/
def xs (c : Dev nD) : Vec F S256x512 .bf16 := iblk m c 0 t0_0
def ws (c : Dev nD) : Vec F S512x4096 .bf16 := iblk m c 1 t0_0
def ls (c : Dev nD) : Vec F S256x1 .i32 := iblk m c 2 t0_0

/-- The partial sums of device `c`, and the loss it computes. -/
abbrev partOf : Dev nD → Vec F S1x256x2 .f32 := part (xs m) (ws m) (ls m)
abbrev lossOf : Dev nD → Vec F S256x1 .f32 := loss (xs m) (ws m) (ls m)

/-- What a device holds of the exchange at its launch: its copies' cells are not open yet. -/
def dealt (c : Dev nD) : sProp 𝕄 :=
  iprop(atPos ER (barCell c) 0 ∅ 0 ∗ (three (fun k => openTok ER (sendCell c k)) ∗ three (fun k => openTok ER (recvCell c k))) ∗ payToks c)

def ghost (c : Dev nD) : sProp 𝕄 :=
  iprop((∃ κ, records (partOf m) κ ∗ dealt c) ∗ credits c)

/-- The same once it has opened them. -/
def opened (c : Dev nD) : sProp 𝕄 :=
  iprop((∃ κ, records (partOf m) κ ∗ positions c ∗ payToks c) ∗ credits c ∗ levAts L lv)

/-- The scratch buffer at whatever it holds. -/
def scratch (c : Dev nD) : sProp 𝕄 :=
  iprop(∃ f : Buf (Elt F) ((c : Thread nD τ).loc cc0_scratch0), ((c : Thread nD τ).loc cc0_scratch0) ↦{fullShare} f)

def entryInv (c : Dev nD) : sProp 𝕄 := iprop(opened m c ∗ scratch c ∗ ∃ r, prngReg c r)
def exitInv (c : Dev nD) : sProp 𝕄 := iprop(semVal (barCell c) 0 ∗ closed c ∗ scratch c ∗ ∃ r, prngReg c r)

def dat (c : Dev nD) : Dat τ (Elt F) Unit ℕ UU ℕ cfg0 c where
  A w := V m c (Pipeline.arrRef spec0 w)
  after w t := match w with
    | ⟨0, _⟩ => xs m c
    | ⟨1, _⟩ => ws m c
    | ⟨2, _⟩ => ls m c
    | ⟨3, _⟩ => lossOf m c
  Φ t := match t with
    | ⟨0, _⟩ => entryInv m c
    | ⟨_ + 1, _⟩ => exitInv c
  q _ := fullShare
  owed t := match t with
    | ⟨0, _⟩ => owedAll c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem share_eq (c : Dev nD) (w : Fin cfg0.W) : (dat m c).share w = fullShare := by unfold Dat.share; split <;> rfl

theorem owesAt_intro (c : Dev nD) (t : Fin (cfg0.N + 1)) (O : CellTallies nD τ sig Unit) (h0 : (dat m c).owed t = O) (W : Waits sig Unit) :
    (owes (c : Thread nD τ) O W : sProp 𝕄) ⊢ (dat m c).owesAt () t := by
  unfold Dat.owesAt Pipeline.owesWithin; rw [h0]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem before_0 (c : Dev nD) (d) : (dat m c).before (0 : Fin 4) t0_0 d = xs m c := (dat m c).before_fetched (0 : Fin 4) t0_0 (fetch0_0 t0_0) d
theorem before_1 (c : Dev nD) (d) : (dat m c).before (1 : Fin 4) t0_0 d = ws m c := (dat m c).before_fetched (1 : Fin 4) t0_0 (fetch0_1 t0_0) d
theorem before_2 (c : Dev nD) (d) : (dat m c).before (2 : Fin 4) t0_0 d = ls m c := (dat m c).before_fetched (2 : Fin 4) t0_0 (fetch0_2 t0_0) d

/-- A staging buffer at contents `X`, as the region hands it over. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyEntry (c : Dev nD) : sProp 𝕄 :=
  iprop(entryInv m c ∗ (dat m c).owesAt () t0_0.castSucc
    ∗ (∃ d, holds c cc0_stg0_0 ((dat m c).before (0 : Fin 4) t0_0 d)) ∗ (∃ d, holds c cc0_stg1_0 ((dat m c).before (1 : Fin 4) t0_0 d))
    ∗ (∃ d, holds c cc0_stg2_0 ((dat m c).before (2 : Fin 4) t0_0 d)) ∗ (∃ d, holds c cc0_stg3_0 ((dat m c).before (3 : Fin 4) t0_0 d)))

def bodyExit (c : Dev nD) : sProp 𝕄 :=
  iprop(exitInv c ∗ (dat m c).owesAt () t0_0.succ
    ∗ holds c cc0_stg0_0 (xs m c) ∗ holds c cc0_stg1_0 (ws m c) ∗ holds c cc0_stg2_0 (ls m c) ∗ holds c cc0_stg3_0 (lossOf m c))

theorem holds_intro (c : Dev nD) (b : Ref sig .tc) (X : b.ty.Contents (Elt F)) : ((((c : Thread nD τ).loc b) ↦{fullShare} X) : sProp 𝕄) ⊢ holds c b X := by
  iintro H; iexists X; isplitr; · ipureintro; rfl
  iexact H

/-- A staging buffer the region hands over at contents known to be `X`. -/
theorem holds_known (c : Dev nD) (b : Ref sig .tc) {ι : Type} (Y : ι → b.ty.Contents (Elt F)) (X : b.ty.Contents (Elt F)) (h : ∀ d, Y d = X) :
    iprop(∃ d, holds c b (Y d)) ⊢ ((((c : Thread nD τ).loc b) ↦{fullShare} X) : sProp 𝕄) := by
  iintro ⟨%d, %f, %hf, H⟩
  obtain rfl : f = X := hf.trans (h d)
  iexact H

set_option maxRecDepth 4000 in
theorem body_obligation (c : Dev nD) : BodyObligation (dat (F := F) m c) (defs₀ (F := F)) 𝒱₀ () Set.univ := fun t => by
  rw [fin_N0 t]
  rw [bigSep_W0, bigSep_W0]
  simp only [owns_whole_eq]
  show bodyEntry m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyExit m c)
  unfold bodyEntry entryInv opened scratch
  iintro ⟨⟨⟨⟨%κ, #HR, Hpos, Htok⟩, Hcr, #Hlev⟩, Hs, Hreg⟩, HO, Hx, Hw, Hl, ⟨%d, %f, -, Ho⟩⟩
  ihave Hx := (holds_known c cc0_stg0_0 _ (xs m c) (before_0 m c)) $$ Hx
  ihave Hw := (holds_known c cc0_stg1_0 _ (ws m c) (before_1 m c)) $$ Hw
  ihave Hl := (holds_known c cc0_stg2_0 _ (ls m c) (before_2 m c)) $$ Hl
  ihave HO' := (owesAt_elim m c t0_0.castSucc (owedAll c) rfl) $$ HO
  icases HO' with ⟨%W, HO⟩
  iapply (run (xs m) (ws m) (ls m) κ c W _)
  isplitl [Hpos Htok Hcr Hs HO Hx Hw Hl Ho]
  · unfold bodyPre staged
    isplitr; · iexact HR
    isplitl [Hpos]; · iexact Hpos
    isplitl [Htok]; · iexact Htok
    isplitl [Hcr]; · iexact Hcr
    isplitr; · iexact Hlev
    isplitl [Hs]; · iexact Hs
    isplitl [Hx Hw Hl]
    · isplitl [Hx]; · iexact Hx
      isplitl [Hw] <;> iassumption
    isplitl [Ho]; · iexists f; iexact Ho
    iexact HO
  unfold bodyPost staged bodyExit exitInv scratch
  iintro ⟨Hb, Hc, Hs, ⟨Hx, Hw, Hl⟩, Ho, ⟨%W', HO⟩⟩
  isplitl [Hb Hc Hs Hreg]
  · isplitl [Hb]; · iexact Hb
    isplitl [Hc]; · iexact Hc
    isplitl [Hs] <;> iassumption
  isplitl [HO]; · iapply (owesAt_intro m c t0_0.succ 0 rfl W'); iexact HO
  isplitl [Hx]; · iapply (holds_intro c cc0_stg0_0 (xs m c)); iexact Hx
  isplitl [Hw]; · iapply (holds_intro c cc0_stg1_0 (ws m c)); iexact Hw
  isplitl [Hl]; · iapply (holds_intro c cc0_stg2_0 (ls m c)); iexact Hl
  iapply (holds_intro c cc0_stg3_0 (lossOf m c)); iexact Ho

/-! ## The region as a segment -/

theorem ownSemFacts : Pipeline.OwnSemFacts spec0 ownSem := by decide

theorem bigSep_six (Φ : Fin 6 → sProp 𝕄) : bigSep Finset.univ Φ = iprop((Φ 0 ∗ Φ 1 ∗ Φ 2) ∗ Φ 3 ∗ Φ 4 ∗ Φ 5) := by
  rw [bigSep_univ_eq_bigSepL [0, 1, 2, 3, 4, 5] (by decide) (by decide) Φ]
  have h : iprop(Φ 0 ∗ Φ 1 ∗ Φ 2 ∗ Φ 3 ∗ Φ 4 ∗ Φ 5) ⊢ iprop((Φ 0 ∗ Φ 1 ∗ Φ 2) ∗ Φ 3 ∗ Φ 4 ∗ Φ 5) := by
    iintro ⟨H0, H1, H2, H⟩
    isplitl [H0 H1 H2]
    · isplitl [H0]; · iexact H0
      isplitl [H1] <;> iassumption
    iexact H
  have h' : iprop((Φ 0 ∗ Φ 1 ∗ Φ 2) ∗ Φ 3 ∗ Φ 4 ∗ Φ 5) ⊢ iprop(Φ 0 ∗ Φ 1 ∗ Φ 2 ∗ Φ 3 ∗ Φ 4 ∗ Φ 5) := by
    iintro ⟨⟨H0, H1, H2⟩, H⟩
    isplitl [H0]; · iexact H0
    isplitl [H1]; · iexact H1
    isplitl [H2] <;> iassumption
  exact BI.equiv_iff.mp ⟨h, h'⟩

theorem ownSems_eq (c : Dev nD) : (Pipeline.ownSems0 ownSem c : sProp 𝕄) = closed c :=
  bigSep_six (fun k : Fin 6 => (semVal ((c : Thread nD τ), ownSem k) 0 : sProp 𝕄))

/-- A device opens one of its copies' cells, its counter being at zero. -/
theorem open_cell (κ : GSem nD τ sig → ℕ) {g : GSem nD τ sig} (hg : g ∈ barCells ∪ dmaCells) :
    iprop(records (partOf m) κ ∗ openTok ER g ∗ semVal g 0) ⊢ (|={Set.univ}=> (atPos ER g 0 ∅ 0 ∗ reached ER g 0) : sProp 𝕄) := by
  iintro ⟨HR, Ho, Hs⟩
  iapply (Rounds.cell_open ER (exRd (partOf m)) (g := g) (Set.mem_univ (κ g)))
  isplitl [HR]; · iapply (records_inv (partOf m) κ hg); iexact HR
  isplitl [Ho] <;> iassumption

theorem open_all (c : Dev nD) : iprop(ghost m c ∗ Pipeline.ownSems0 ownSem c ∗ levAts L lv) ⊢ (|={Set.univ}=> opened m c : sProp 𝕄) := by
  rw [ownSems_eq]
  unfold ghost dealt closed opened positions
  iintro ⟨⟨⟨%κ, #HR, HaB, ⟨⟨HoS0, HoS1, HoS2⟩, HoV0, HoV1, HoV2⟩, Htok⟩, Hcr⟩, ⟨⟨Hs0, Hs1, Hs2⟩, Hv0, Hv1, Hv2⟩, #Hlev⟩
  imod (open_cell m κ (send_mem c 0)) $$ [HoS0 Hs0] with ⟨HaS0, HrS0⟩
  · isplitr; · iexact HR
    isplitl [HoS0] <;> iassumption
  imod (open_cell m κ (send_mem c 1)) $$ [HoS1 Hs1] with ⟨HaS1, HrS1⟩
  · isplitr; · iexact HR
    isplitl [HoS1] <;> iassumption
  imod (open_cell m κ (send_mem c 2)) $$ [HoS2 Hs2] with ⟨HaS2, HrS2⟩
  · isplitr; · iexact HR
    isplitl [HoS2] <;> iassumption
  imod (open_cell m κ (recv_mem c 0)) $$ [HoV0 Hv0] with ⟨HaV0, HrV0⟩
  · isplitr; · iexact HR
    isplitl [HoV0] <;> iassumption
  imod (open_cell m κ (recv_mem c 1)) $$ [HoV1 Hv1] with ⟨HaV1, HrV1⟩
  · isplitr; · iexact HR
    isplitl [HoV1] <;> iassumption
  imod (open_cell m κ (recv_mem c 2)) $$ [HoV2 Hv2] with ⟨HaV2, HrV2⟩
  · isplitr; · iexact HR
    isplitl [HoV2] <;> iassumption
  imodintro
  isplitr [Hcr]
  · iexists κ
    isplitr; · iexact HR
    isplitr [Htok]
    · isplitl [HaB]; · iexact HaB
      isplitl [HaS0 HaS1 HaS2]
      · isplitl [HaS0]; · iexact HaS0
        isplitl [HaS1] <;> iassumption
      isplitl [HaV0 HaV1 HaV2]
      · isplitl [HaV0]; · iexact HaV0
        isplitl [HaV1] <;> iassumption
      isplitl [HrS0 HrS1 HrS2]
      · isplitl [HrS0]; · iexact HrS0
        isplitl [HrS1] <;> iassumption
      isplitl [HrV0]; · iexact HrV0
      isplitl [HrV1] <;> iassumption
    iexact Htok
  isplitl [Hcr]; · iexact Hcr
  iexact Hlev

/-- The TensorCore's buffers as the region leaves them. -/
abbrev left (c : Dev nD) : Valuation τ sig (Elt F) := Pipeline.afterRegion (dat m c) (V0 m c)

/-- The buffers the region leaves alone. -/
abbrev others : Finset (DevRef τ sig) := Pipeline.ucRefs τ sig \ Pipeline.arrRefs spec0

theorem held_none (c : Dev nD) (W : Valuation τ sig (Elt F)) : (StableHlo.held (c.tc : Thread nD τ) ∅ W : sProp 𝕄) = BI.emp := by
  unfold StableHlo.held; exact BI.bigSep_empty

theorem region_in (c : Dev nD) :
    iprop(Pipeline.scopedRest (Pipeline.pin (pcfgs (F := F)) adm 0).spec c ∗ (∃ r, prngReg c r) ∗ StableHlo.held (c.tc : Thread nD τ) ∅ (V0 m c) ∗ opened m c)
      ⊢ (pdats m 0 c).Φ 0 := by
  rw [show (pdats m 0 c).Φ 0 = entryInv m c from rfl, scopedRest0_eq, held_none]
  unfold entryInv scratch
  iintro ⟨Hs, Hp, -, HX⟩
  isplitl [HX]; · iexact HX
  isplitl [Hs] <;> iassumption

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (left m c)
        ∗ Pipeline.ownSems0 ownSem c ∗ semVal (barCell c) 0) := by
  rw [show (pdats m 0 c).Φ (Fin.last _) = exitInv c from rfl, scopedRest0_eq, held_none, ownSems_eq]
  unfold exitInv scratch
  iintro ⟨Hb, Hc, Hs, Hp⟩
  isplitl [Hs]; · iexact Hs
  isplitl [Hp]; · iexact Hp
  isplitr; · iempintro
  isplitl [Hc] <;> iassumption

theorem owed_cut (c : Dev nD) (t : Fin (cfg0.N + 1)) (g : GSem nD τ sig) (i : Unit) (h : 0 < (dat m c).owed t g i) : i ∈ L g ∧ (0 : ℕ) < lv g i := by
  obtain ⟨t, ht⟩ := t
  cases t with
  | zero => exact owedAll_above h
  | succ n => exact absurd h (Nat.lt_irrefl 0)

/-- The staging cells lie below every cell of the exchange. -/
theorem stage_level (c : Dev nD) (w : Fin 4) (s : Fin (spec0 w).nbuf) : lv ((c : Thread nD τ), .dma ((spec0 w).sem s)) () ≤ 0 := by
  have h : ∀ (w : Fin 4) (s : Fin (spec0 w).nbuf), ((spec0 w).sem s).val < 7 := by decide
  show (if ((spec0 w).sem s).val < 7 then 0 else 2) ≤ 0
  rw [if_pos (h w s)]

set_option backward.isDefEq.respectTransparency.types false in
def exchange : Pipeline.RegionSeg (pcfgs (F := F)) adm (pdats m) () defs₀ 𝒱₀ L lv 0 :=
  Pipeline.RegionSeg.ofTalk (pcfgs (F := F)) adm (pdats m) () defs₀ 𝒱₀ L lv 0 ownSem ownSemFacts
    ∅ others (Finset.empty_subset _) launch0.toP rfl (fun c => (body_obligation m c).loose)
    (fun _ => 0) owedAll (fun c => (zero_add _).symm) (fun _ => rfl) (fun _ => rfl) (share_eq m)
    (V0 m) (left m) (fun c b hb => Pipeline.afterRegion_off (dat m c) (V0 m c) (Pipeline.ucRefs τ sig) b (Finset.mem_sdiff.mp hb).1)
    (ghost m) (fun c => semVal (barCell c) 0) (opened m) (fun c => semVal (barCell c) 0) (open_all m) (region_in m) (region_out m)
    (fun c => by iintro H; imodintro; iexact H)
    (fun _ => 0)
    ⟨fun c w s => by rw [L_tc]; exact Finset.mem_singleton_self _, fun c w s => stage_level c w s, fun c t g i h => owed_cut m c t g i h⟩
    (fun _ => iprop(emp))
    (fun _ _ => rfl) (fun c w => (Pipeline.afterRegion_arr (dat m c) (V0 m c) launch0.win.arr_inj w).symm)

end Cert.KernelIdeal.Exchange
-- ==== Proof.Launch.lean ====
/-
# The launch: the exchange's ghost state dealt to the devices, and the run of @main

Every cell's invariant is allocated at the launch, the copies' cells dormant; the tokens are minted at the cells they belong to
and dealt round the ring to the devices that pay with them. `run_main` says what every buffer of @main ends holding and that
every semaphore ends at zero, from any memory.
-/
module

public import proofs.«01_k».proof.Proof.Region
public import Idealize.ShloMosaic.Lib.Quiescent

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

/-- Over all devices, what is owed to the cell `f c` by the device `j + 1` places before `c`. -/
theorem sum_hit (f : Dev nD → GSem nD τ sig) (hf : Function.Injective f) (j : Fin 3) (n : ℕ) (c : Dev nD) :
    ∑ d : Dev nD, (tallyAt (f (shift d j)) () n : CellTallies nD τ sig Unit) (f c) () = n := by
  rw [Finset.sum_eq_single (shift c j.rev)]
  · rw [shift_rev', tallyAt_apply, if_pos ⟨rfl, rfl⟩]
  · intro d _ hd
    rw [tallyAt_apply, if_neg]
    rintro ⟨h, -⟩
    exact hd (by rw [hf h, shift_rev])
  · intro h; exact absurd (Finset.mem_univ _) h
theorem sum_miss (f : Dev nD → GSem nD τ sig) (j : Fin 3) (n : ℕ) (g : GSem nD τ sig) (hg : ∀ d, g ≠ f d) :
    ∑ d : Dev nD, (tallyAt (f (shift d j)) () n : CellTallies nD τ sig Unit) g () = 0 :=
  Finset.sum_eq_zero fun d _ => by rw [tallyAt_apply, if_neg (fun h => hg _ h.1)]

theorem sum_owed (g : GSem nD τ sig) : ∑ d : Dev nD, owedAll d g ()
    = ∑ d : Dev nD, (tallyAt (recvCell (shift d 2) 2) () N : CellTallies nD τ sig Unit) g ()
      + ∑ d : Dev nD, (tallyAt (recvCell (shift d 1) 1) () N : CellTallies nD τ sig Unit) g ()
      + ∑ d : Dev nD, (tallyAt (recvCell (shift d 0) 0) () N : CellTallies nD τ sig Unit) g ()
      + ∑ d : Dev nD, (tallyAt (barCell (shift d 2)) () 1 : CellTallies nD τ sig Unit) g ()
      + ∑ d : Dev nD, (tallyAt (barCell (shift d 1)) () 1 : CellTallies nD τ sig Unit) g ()
      + ∑ d : Dev nD, (tallyAt (barCell (shift d 0)) () 1 : CellTallies nD τ sig Unit) g () := by
  simp only [← Finset.sum_add_distrib]
  refine Finset.sum_congr rfl fun d _ => ?_
  unfold owedAll owedBar2 owedBar1 owedRecv owedRecv2 owedRecv3
  rw [zero_add]
  rfl

theorem recv_inj (k : Fin 3) : Function.Injective fun c : Dev nD => recvCell c k := fun _ _ h => dev_of_cell h
theorem bar_inj : Function.Injective fun c : Dev nD => barCell c := fun _ _ h => dev_of_cell h
theorem recv_ne_bar (c d : Dev nD) (k : Fin 3) : recvCell c k ≠ barCell d := fun h => by cases congrArg Prod.snd h
theorem recv_ne_recv (c d : Dev nD) {k j : Fin 3} (h : k ≠ j) : recvCell c k ≠ recvCell d j := fun e =>
  h ((by decide : ∀ k j : Fin 3, (SemLoc.dma (recvS k) : SemLoc sig) = .dma (recvS j) → k = j) k j (congrArg Prod.snd e))

theorem owed_to_bar (c : Dev nD) : ∑ d : Dev nD, owedAll d (barCell c) () = 3 := by
  rw [sum_owed, sum_miss (fun d => recvCell d 2) 2 N _ fun d => (recv_ne_bar d c 2).symm, sum_miss (fun d => recvCell d 1) 1 N _ fun d => (recv_ne_bar d c 1).symm,
    sum_miss (fun d => recvCell d 0) 0 N _ fun d => (recv_ne_bar d c 0).symm, sum_hit _ bar_inj 2 1 c, sum_hit _ bar_inj 1 1 c, sum_hit _ bar_inj 0 1 c]

theorem owed_to_recv (c : Dev nD) (k : Fin 3) : ∑ d : Dev nD, owedAll d (recvCell c k) () = N := by
  have hb (j : Fin 3) : ∑ d : Dev nD, (tallyAt (barCell (shift d j)) () 1 : CellTallies nD τ sig Unit) (recvCell c k) () = 0 :=
    sum_miss (fun d => barCell d) j 1 _ fun d => recv_ne_bar c d k
  have hr (j : Fin 3) (h : k ≠ j) : ∑ d : Dev nD, (tallyAt (recvCell (shift d j) j) () N : CellTallies nD τ sig Unit) (recvCell c k) () = 0 :=
    sum_miss (fun d => recvCell d j) j N _ fun d => recv_ne_recv c d h
  have hk : ∑ d : Dev nD, (tallyAt (recvCell (shift d k) k) () N : CellTallies nD τ sig Unit) (recvCell c k) () = N := sum_hit _ (recv_inj k) k N c
  rw [sum_owed, hb 0, hb 1, hb 2]
  fin_cases k
  · rw [hr 1 (by decide), hr 2 (by decide)]; simpa using hk
  · rw [hr 0 (by decide), hr 2 (by decide)]; simpa using hk
  · rw [hr 0 (by decide), hr 1 (by decide)]; simpa using hk

theorem launch_at (c : Dev nD) (sm : SemLoc sig) (n : ℕ) (h : ∑ d : Dev nD, owedAll d ((c : Thread nD τ), sm) () = n) :
    tallyOn ((c : Thread nD τ), sm) (launchCredit (Pipeline.owing owedAll) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

theorem credits_launch (c : Dev nD) : (Pipeline.launchCred owedAll c : sProp 𝕄) ⊢ credits c := by
  unfold Pipeline.launchCred credits
  refine (BI.bigSep_subset (t := {SemLoc.reg barS, .dma (recvS 0), .dma (recvS 1), .dma (recvS 2)}) (Finset.subset_univ _)).trans ?_
  rw [bigSep_insert (by decide), bigSep_insert (by decide), bigSep_insert (by decide), bigSep_singleton,
    launch_at c _ 3 (owed_to_bar c), launch_at c _ N (owed_to_recv c 0), launch_at c _ N (owed_to_recv c 1), launch_at c _ N (owed_to_recv c 2)]
  exact BI.Entails.refl _

/-! ## The tokens -/

theorem disjoint_cells : Disjoint barCells dmaCells := by
  rw [Finset.disjoint_left]
  rintro g h₁ h₂
  obtain ⟨c, -, rfl⟩ := Finset.mem_map.mp h₁
  obtain ⟨ck, -, h⟩ := Finset.mem_map.mp h₂
  exact ownSem_ne_bar ck.2 (congrArg Prod.snd h)

/-- A device's duties: three at its barrier cell, one at each of its copies' cells. -/
abbrev duty : Fin 9 → SemLoc sig × Fin 3 := fun
  | 0 => (.reg barS, 2) | 1 => (.reg barS, 1) | 2 => (.reg barS, 0)
  | 3 => (.dma (sendS 0), 0) | 4 => (.dma (sendS 1), 0) | 5 => (.dma (sendS 2), 0)
  | 6 => (.dma (recvS 0), 0) | 7 => (.dma (recvS 1), 0) | 8 => (.dma (recvS 2), 0)
theorem duty_inj : Function.Injective duty := by decide

def allToks : Finset (GSem nD τ sig × ℕ × Fin 3) :=
  Finset.univ.map ⟨fun ck : Dev nD × Fin 9 => (((ck.1 : Thread nD τ), (duty ck.2).1), 0, (duty ck.2).2), fun _ _ h =>
    Prod.ext (congrArg (fun t : GSem nD τ sig × ℕ × Fin 3 => t.1.1.1) h)
      (duty_inj (Prod.ext (congrArg (fun t : GSem nD τ sig × ℕ × Fin 3 => t.1.2) h) (congrArg (fun t : GSem nD τ sig × ℕ × Fin 3 => t.2.2) h)))⟩

/-- The tokens minted at device `c`'s cells. -/
def minted (c : Dev nD) : sProp 𝕄 :=
  iprop(three (fun k => dutyTok ER (barCell c) 0 k.rev) ∗ three (fun k => dutyTok ER (sendCell c k) 0 0) ∗ three (fun k => dutyTok ER (recvCell c k) 0 0))

theorem bigSep_nine (Φ : Fin 9 → sProp 𝕄) : bigSep Finset.univ Φ ⊢ iprop((Φ 0 ∗ Φ 1 ∗ Φ 2) ∗ (Φ 3 ∗ Φ 4 ∗ Φ 5) ∗ Φ 6 ∗ Φ 7 ∗ Φ 8) := by
  rw [bigSep_univ_eq_bigSepL [0, 1, 2, 3, 4, 5, 6, 7, 8] (by decide) (by decide) Φ]
  have h : iprop(Φ 0 ∗ Φ 1 ∗ Φ 2 ∗ Φ 3 ∗ Φ 4 ∗ Φ 5 ∗ Φ 6 ∗ Φ 7 ∗ Φ 8) ⊢ iprop((Φ 0 ∗ Φ 1 ∗ Φ 2) ∗ (Φ 3 ∗ Φ 4 ∗ Φ 5) ∗ Φ 6 ∗ Φ 7 ∗ Φ 8) := by
    iintro ⟨H0, H1, H2, H3, H4, H5, H⟩
    isplitl [H0 H1 H2]
    · isplitl [H0]; · iexact H0
      isplitl [H1] <;> iassumption
    isplitl [H3 H4 H5]
    · isplitl [H3]; · iexact H3
      isplitl [H4] <;> iassumption
    iexact H
  exact h

theorem toks_minted : bigSep allToks (fun x => (dutyTok ER x.1 x.2.1 x.2.2 : sProp 𝕄)) ⊢ bigSep Finset.univ fun c : Dev nD => minted c := by
  unfold allToks; rw [bigSep_map, bigSep_univ_prod]
  exact bigSep_mono fun c _ => bigSep_nine _

/-- The barrier and receive tokens handed round the ring. -/
theorem toks_dealt : (bigSep Finset.univ fun c : Dev nD => (minted c : sProp 𝕄)) ⊢ bigSep Finset.univ fun c : Dev nD => payToks c := by
  unfold minted payToks three
  simp only [bigSep_sep']
  rw [bigSep_univ_equiv (turn 0) (fun c : Dev nD => (dutyTok ER (barCell c) 0 (Fin.rev 0) : sProp 𝕄)),
    bigSep_univ_equiv (turn 1) (fun c : Dev nD => (dutyTok ER (barCell c) 0 (Fin.rev 1) : sProp 𝕄)),
    bigSep_univ_equiv (turn 2) (fun c : Dev nD => (dutyTok ER (barCell c) 0 (Fin.rev 2) : sProp 𝕄)),
    bigSep_univ_equiv (turn 0) (fun c : Dev nD => (dutyTok ER (recvCell c 0) 0 0 : sProp 𝕄)),
    bigSep_univ_equiv (turn 1) (fun c : Dev nD => (dutyTok ER (recvCell c 1) 0 0 : sProp 𝕄)),
    bigSep_univ_equiv (turn 2) (fun c : Dev nD => (dutyTok ER (recvCell c 2) 0 0 : sProp 𝕄))]
  exact BI.Entails.refl _

/-! ## The segments -/

/-- The launch's contents of device `c`'s buffers. -/
abbrev start (c : Dev nD) : Valuation τ sig (Elt F) := fun b => m ((c : Dev nD), b)

/-- What rides beside the buffers up to the region. -/
def riding (c : Dev nD) : sProp 𝕄 := iprop(ghost m c ∗ (∃ r, prngReg c r) ∗ ∃ W, owes (c : Thread nD τ) (owedAll c) W)
/-- And after it. -/
def done (c : Dev nD) : sProp 𝕄 := iprop(semVal (barCell c) 0 ∗ ∃ W, owes (c : Thread nD τ) (0 : CellTallies nD τ sig Unit) W)

local notation "ℍ" => Pipeline.HostSeg (Name := ℕ) (U := UU) (pcfgs (F := F)) defs₀ 𝒱₀ L lv

def before : ℍ := Pipeline.HostSeg.ofOps _ _ _ _ _ (Pipeline.ucRefs τ sig) hostOps0
  (fun op h => Pipeline.sub_ucRefs op (List.forall_iff_forall_mem.mp hostOps0_sub op h)) (List.forall_iff_forall_mem.mp hostOps0_fresh) (start m) (riding m)
def after : ℍ := Pipeline.HostSeg.ofOps _ _ _ _ _ (Pipeline.ucRefs τ sig) hostOps1
  (fun op h => Pipeline.sub_ucRefs op (List.forall_iff_forall_mem.mp hostOps1_sub op h)) (List.forall_iff_forall_mem.mp hostOps1_fresh) (left m) done

def segs : List (Pipeline.Seg (pcfgs (F := F)) adm (pdats m) () defs₀ 𝒱₀ L lv) := [.host (before m), .region (exchange m), .host (after m)]

theorem main_eq (c : Dev nD) : main (F := F) c = Pipeline.Seg.run (segs m) :=
  main_segs adm (pdats m) () 𝒱₀ L lv (before m) (after m) (exchange m) rfl rfl c

theorem held_split (c : Dev nD) (W : Valuation τ sig (Elt F)) : (StableHlo.held (c.tc : Thread nD τ) (Pipeline.ucRefs τ sig) W : sProp 𝕄)
    = iprop(StableHlo.held (c.tc : Thread nD τ) (Pipeline.arrRefs (τ := τ) spec0) W ∗ StableHlo.held (c.tc : Thread nD τ) others W) :=
  StableHlo.held_sub_split (c.tc : Thread nD τ) (Pipeline.arrRefs_sub_ucRefs spec0 launch0.win.arr_unscoped) W

theorem exchange_pre (c : Dev nD) : iprop(StableHlo.held (c.tc : Thread nD τ) (Pipeline.ucRefs τ sig) (V0 m c) ∗ riding m c) ⊢ (exchange m).pre c := by
  show _ ⊢ iprop(StableHlo.held (c.tc : Thread nD τ) (Pipeline.arrRefs (τ := τ) spec0) (V0 m c) ∗ (∃ r, prngReg c r)
    ∗ (StableHlo.held (c.tc : Thread nD τ) others (V0 m c) ∗ emp) ∗ ghost m c ∗ ∃ Wd, owes (c : Thread nD τ) (0 + owedAll c) Wd)
  rw [held_split, zero_add]
  unfold riding
  iintro ⟨⟨Ha, Ho⟩, Hg, Hp, HO⟩
  isplitl [Ha]; · iexact Ha
  isplitl [Hp]; · iexact Hp
  isplitl [Ho]
  · isplitl [Ho]; · iexact Ho
    iempintro
  isplitl [Hg]; · iexact Hg
  iexact HO

theorem exchange_post (c : Dev nD) : (exchange m).post c ⊢ iprop(StableHlo.held (c.tc : Thread nD τ) (Pipeline.ucRefs τ sig) (left m c) ∗ done c) := by
  show iprop(StableHlo.held (c.tc : Thread nD τ) (Pipeline.arrRefs (τ := τ) spec0) (left m c) ∗ (∃ r, prngReg c r)
    ∗ (StableHlo.held (c.tc : Thread nD τ) others (left m c) ∗ emp) ∗ semVal (barCell c) 0 ∗ ∃ Wd, owes (c : Thread nD τ) (0 : CellTallies nD τ sig Unit) Wd) ⊢ _
  rw [held_split]
  unfold done
  iintro ⟨Ha, -, ⟨Ho, -⟩, Hb, HO⟩
  isplitl [Ha Ho]
  · isplitl [Ha] <;> iassumption
  isplitl [Hb] <;> iassumption

/-! ## The run -/

/-- The launch element: the pipeline library's at the staging cells, the exchange's at its own. -/
def u₀ : UU :=
  (initOf (Pipeline.cells (Pipeline.pin (pcfgs (F := F)) adm) cellOf_inj) (Pipeline.launchToks (Pipeline.pin (pcfgs (F := F)) adm) cellOf_inj),
    launchOf barCells dmaCells allToks)

/-- The exchange's part of it is kept whole on device 0 until it is funded. -/
def parked (c : Dev nD) : sProp 𝕄 := if c = 0 then BI.own (ER (launchOf barCells dmaCells allToks)) else iprop(emp)
theorem parked_all : bigSep Finset.univ (parked (F := F)) = BI.own (ER (launchOf barCells dmaCells allToks)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

abbrev first (c : Dev nD) : sProp 𝕄 := iprop(StableHlo.held (c.tc : Thread nD τ) (Pipeline.ucRefs τ sig) (start m c) ∗ riding m c)
abbrev last (c : Dev nD) : sProp 𝕄 :=
  iprop(StableHlo.held (c.tc : Thread nD τ) (Pipeline.ucRefs τ sig) (StableHlo.after hostOps1 (left m c)) ∗ semVal (barCell c) 0)

/-- What a core holds at the launch that is not the exchange's ghost state. -/
def bundle (c : Dev nD) : sProp 𝕄 :=
  iprop(StableHlo.held (c.tc : Thread nD τ) (Pipeline.ucRefs τ sig) (start m c) ∗ credits c ∗ owes (c : Thread nD τ) (owedAll c) ∅ ∗ ∃ r, prngReg c r)

theorem first_intro (κ : GSem nD τ sig → ℕ) (c : Dev nD) : iprop(records (partOf m) κ ∗ (dealt c ∗ bundle m c)) ⊢ first m c := by
  unfold bundle first riding ghost
  iintro ⟨HR, Hd, Hh, Hc, HO, Hp⟩
  isplitl [Hh]; · iexact Hh
  isplitl [HR Hd Hc]
  · isplitr [Hc]
    · iexists κ; isplitl [HR] <;> iassumption
    iexact Hc
  isplitl [Hp]; · iexact Hp
  iexists ∅; iexact HO

theorem unscoped_eq : ∀ sm : SemLoc sig, sm.isScoped .tc = false → sm = .reg barS := by decide
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem init :
    iprop((bigSep Finset.univ fun c : Dev nD => iprop(unscopedBufs c (fun b => m ((c : Thread nD τ).loc b)) ∗ unscopedSems0 c
          ∗ owes (c : Thread nD τ) (owedAll c) ∅ ∗ Pipeline.launchCred owedAll c ∗ prngReg c (ρ c) ∗ parked c)) ∗ levAts L lv)
      ⊢ (|={Set.univ}=> bigSep Finset.univ (first m) : sProp 𝕄) := by
  have hcore (c : Dev nD) : iprop(unscopedBufs c (fun b => m ((c : Thread nD τ).loc b)) ∗ unscopedSems0 c
        ∗ owes (c : Thread nD τ) (owedAll c) ∅ ∗ Pipeline.launchCred owedAll c ∗ prngReg c (ρ c) ∗ parked c)
      ⊢ (iprop(bundle m c ∗ (semVal (barCell c) 0 ∗ parked c)) : sProp 𝕄) := by
    rw [show unscopedBufs c (fun b => m ((c : Thread nD τ).loc b)) = StableHlo.held (c.tc : Thread nD τ) (Pipeline.ucRefs τ sig) (start m c)
        from Pipeline.unscopedBufs_held c (start m c), unscopedSems_eq]
    unfold bundle
    iintro ⟨Hh, Hus, HO, Hcr, Hp, HG⟩
    ihave Hc := (credits_launch (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄))
      ⊢ bigSep Finset.univ (fun c : Dev nD => iprop(three (fun k => openTok ER (sendCell c k)) ∗ three (fun k => openTok ER (recvCell c k)))) :=
    Entails.of_eq (by
      rw [bigSep_map, bigSep_univ_prod]
      exact bigSep_congr fun c _ => bigSep_six (fun k : Fin 6 => (openTok ER ((c : Thread nD τ), ownSem k) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (owedAll c) ∅ ∗ Pipeline.launchCred owedAll c ∗ prngReg c (ρ c) ∗ parked c))
      ⊢ (bigSep Finset.univ fun c : Dev nD => iprop(bundle m c ∗ (semVal (barCell c) 0 ∗ parked c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (parked_all (F := F))) $$ HG
  imod (Rounds.fund_launch ER (exRd (partOf m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records (partOf m) κ) (Φ := fun c => iprop(dealt c ∗ bundle m c)) fun c _ => first_intro m κ c)
  isplitr
  · unfold records
    isplitr; · iexact Hinv
    iexact Hr
  iapply (Entails.of_eq (bigSep_sep' _ _ _).symm)
  isplitr [HB]
  · unfold dealt
    iapply (Entails.of_eq (bigSep_sep' _ _ _).symm); isplitl [Hat]; · iapply hat $$ Hat
    iapply (Entails.of_eq (bigSep_sep' _ _ _).symm); isplitl [Hopen]; · iapply hopen $$ Hopen
    iapply (toks_dealt (F := F))
    iapply (toks_minted (F := F)) $$ Htok
  · iexact HB

set_option backward.isDefEq.respectTransparency.types false in
/-- From any memory with zero counters, every weakly fair execution of @main on the four devices terminates; every buffer of
    @main ends at the host operations' results over what the region left, and every semaphore of the machine at zero. -/
theorem run_main : θ_run defs (onTc (τ := τ) (main (F := F))) (s₀ m ρ)
    (fun r => (∀ c : Dev nD, ∀ b ∈ Pipeline.ucRefs τ sig, r.2.mem ((c.tc : Thread nD τ).1, b) = StableHlo.after hostOps1 (left m c) b) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owedAll) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := first m) (Tₙ := last m)
    (hch := by
      refine ⟨fun c => .rfl, fun c => exchange_pre m c, fun c => exchange_post m c, fun c => ?_⟩
      show iprop(StableHlo.held (c.tc : Thread nD τ) (Pipeline.ucRefs τ sig) (StableHlo.after hostOps1 (left m c)) ∗ done c)
        ⊢ iprop(last m c ∗ ∃ W, owes (c : Thread nD τ) (0 : CellTallies nD τ sig Unit) W)
      unfold done
      iintro ⟨Hh, Hb, HO⟩
      isplitr [HO]
      · isplitl [Hh] <;> iassumption
      · iexact HO)
    (hinit := init m ρ)
    (QY := fun c s => (∀ b ∈ Pipeline.ucRefs τ sig, s.mem ((c.tc : Thread nD τ).1, b) = StableHlo.after hostOps1 (left m c) b) ∧ s.sem (barCell c) = 0)
    (hfin := fun c s' => by
      dsimp only [last]; unfold StableHlo.held
      iintro ⟨⟨Hh, Hb⟩, HSI⟩
      icombine HSI Hb gives %hb
      ihave Hr := (pointsTo_read_all (Pipeline.ucRefs τ sig) (fun b => ((c.tc : Thread nD τ).1, b)) (StableHlo.after hostOps1 (left m c)) s') $$ [Hh HSI]
      · isplitl [Hh] <;> iassumption
      icases Hr with ⟨%hr, HSI⟩
      imodintro
      isplitr
      · ipureintro; exact ⟨hr, by simpa using hb⟩
      iexact HSI)
    (hQ := fun s h hs => ⟨fun c => (h c).1, sem_eq_zero hs fun c sm hsm => by
        obtain rfl := unscoped_eq sm hsm
        exact (h c).2⟩)

end Cert.KernelIdeal.Exchange
-- ==== Proof.Results.lean ====
/-
# What @main leaves

The arguments end as launched, and the result array ends holding each device's loss column read as a row. `frame` is the run
with the values dropped; `run_result` keeps the result array.
-/
module

public import proofs.«01_k».proof.Proof.Launch

@[expose] public section

noncomputable section

namespace Cert.KernelIdeal.Exchange

open Cert.KernelIdeal Cert.KernelIdeal.Gen

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- What the buffer `b` of device `c` ends holding. -/
abbrev final (c : Dev nD) (b : Ref sig .tc) : Buf (Elt F) ((c : Thread nD τ).loc b) := StableHlo.after hostOps1 (left m c) (Proc.devRef .tc b)

/-- The host line after the region writes the result array only. -/
theorem final_of_ne (c : Dev nD) (b : Ref sig .tc) (hb : b ≠ main_v3) : final m c b = left m c (Proc.devRef .tc b) :=
  StableHlo.after_of_forall_not_mem (b := Proc.devRef .tc b) _ _ (by
    intro op hop
    simp only [hostOps1, List.mem_cons, List.mem_nil_iff, or_false] at hop
    subst hop
    rw [StableHlo.reshape_writes, Finset.mem_singleton]
    exact StableHlo.devRef_ne_of_ne hb)

/-- The region changes its result buffer only. -/
theorem left_of_ne (c : Dev nD) (b : Ref sig .tc) (hb : b ≠ main_v2) : left m c (Proc.devRef .tc b) = V m c b :=
  Pipeline.afterRegion_keeps (dat m c) (V0 m c) launch0.win.arr_inj (fun _ => rfl) b
    (fun w hw => by
      fin_cases w
      · rfl
      · rfl
      · rfl
      · exact absurd hw.symm hb)

theorem final_arg0 (c : Dev nD) : final m c main_arg0 = m ((c : Thread nD τ).loc main_arg0) :=
  (final_of_ne m c main_arg0 (by decide)).trans ((left_of_ne m c main_arg0 (by decide)).trans (V_main_arg0 m c))
theorem final_arg1 (c : Dev nD) : final m c main_arg1 = m ((c : Thread nD τ).loc main_arg1) :=
  (final_of_ne m c main_arg1 (by decide)).trans ((left_of_ne m c main_arg1 (by decide)).trans (V_main_arg1 m c))
theorem final_arg2 (c : Dev nD) : final m c main_arg2 = m ((c : Thread nD τ).loc main_arg2) :=
  (final_of_ne m c main_arg2 (by decide)).trans ((left_of_ne m c main_arg2 (by decide)).trans (V_main_arg2 m c))

/-- The region leaves its result buffer holding the device's loss. -/
theorem left_loss (c : Dev nD) : left m c (Proc.devRef .tc main_v2) = lossOf m c := by
  refine (Pipeline.afterRegion_arr (dat m c) (V0 m c) launch0.win.arr_inj 3).trans ?_
  exact (dat m c).arrAt_eq_of_after_last 3 t0_0 (by decide +kernel) _ fun j => rfl

theorem cast_labels : S256.ShapeCasts S256x1 := by decide
theorem cast_loss : S256x1.ShapeCasts S256 := by decide

/-- The result array: the loss column's entries in order. -/
def answer (c : Dev nD) : Vec F S256 .f32 := fun i => shapeCast S256 (lossOf m c) cast_loss i

theorem final_v3 (c : Dev nD) : final m c main_v3 = answer m c := by
  show (StableHlo.after hostOps1 (left m c)) (Proc.devRef .tc main_v3) = _
  simp only [hostOps1, StableHlo.after_cons, StableHlo.after_nil]
  rw [StableHlo.reshape_result', left_loss]
  rfl

/-- A staged argument is its whole array as the region finds it: each window's one block starts at the origin. -/
theorem iblk_whole (c : Dev nD) : iblk m c 0 t0_0 = V m c main_arg0 ∧ iblk m c 1 t0_0 = V m c main_arg1 ∧ iblk m c 2 t0_0 = V m c main_v1 := by
  refine ⟨?_, ?_, ?_⟩ <;> funext j
  · exact congrArg (V m c main_arg0) (funext fun a => Fin.ext (Pipeline.Window.rect_emb_val_of_index_zero (cfg0.win 0) t0_0 a (by revert a; decide +kernel) j))
  · exact congrArg (V m c main_arg1) (funext fun a => Fin.ext (Pipeline.Window.rect_emb_val_of_index_zero (cfg0.win 1) t0_0 a (by revert a; decide +kernel) j))
  · exact congrArg (V m c main_v1) (funext fun a => Fin.ext (Pipeline.Window.rect_emb_val_of_index_zero (cfg0.win 2) t0_0 a (by revert a; decide +kernel) j))

/-- The products' operands are the argument arrays, and the label column is the label row reshaped. -/
theorem xs_eq (c : Dev nD) : xs m c = m ((c : Thread nD τ).loc main_arg0) := (iblk_whole m c).1.trans (V_main_arg0 m c)
theorem ws_eq (c : Dev nD) : ws m c = m ((c : Thread nD τ).loc main_arg1) := (iblk_whole m c).2.1.trans (V_main_arg1 m c)
theorem ls_eq (c : Dev nD) : ls m c = fun i => shapeCast S256x1 (m ((c : Thread nD τ).loc main_arg2)) cast_labels i := by
  refine (iblk_whole m c).2.2.trans ?_
  show (StableHlo.after (List.flatten [hostOps0]) fun b => m (c, b)) (Proc.devRef .tc main_v1) = _
  simp only [hostOps0, List.flatten_cons, List.flatten_nil, List.append_nil, StableHlo.after_cons, StableHlo.after_nil]
  rw [StableHlo.reshape_result']
  rfl

/-- @main ends with its arguments unchanged, the result array holding the loss and every semaphore at zero. -/
theorem run_result : θ_run defs (onTc (τ := τ) (main (F := F))) (s₀ m ρ)
    (fun r => (∀ c : Dev nD, r.2.mem ((c : Thread nD τ).loc main_v3) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c =>
    ⟨(h.1 c _ (Pipeline.devRef_mem_ucRefs rfl)).trans (final_v3 m c), (h.1 c _ (Pipeline.devRef_mem_ucRefs rfl)).trans (final_arg0 m c),
      (h.1 c _ (Pipeline.devRef_mem_ucRefs rfl)).trans (final_arg1 m c), (h.1 c _ (Pipeline.devRef_mem_ucRefs rfl)).trans (final_arg2 m c)⟩, h.2⟩)
    (run_main m ρ)

theorem frame : θ_run defs (onTc (τ := τ) (main (F := F))) (s₀ m ρ)
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => (h.1 c).2, h.2⟩) (run_result m ρ)

end Cert.KernelIdeal.Exchange
-- ==== Proof.Value.Kernel.lean ====
/-
# What a device answers, read at a row

Over the extended reals: a device's partial at row `r` is the sum of the exponentials of its share's logits, and the sum of
the logit at the label's column if the share holds that column. The answer is the logarithm of the four devices' first sums
together, less their second sums together; the order of the slots drops out, each device reading all four shares.
-/
module

public import proofs.«01_k».proof.Proof.Results
public import Idealize.ShloMosaic.Lib.Pointwise
public import Idealize.ShloMosaic.Lib.WordCmp
public import Idealize.ShloMosaic.PureOps.Ideal.Laws

@[expose] public section

noncomputable section

namespace Cert.KernelIdeal.Exchange

open Cert.KernelIdeal Cert.KernelIdeal.Gen

open Idealize.ShloMosaic
open Idealize.ShloMosaic.TcCoe
open Idealize.SL Idealize.SL.Sem

/-- The logit of row `r` and column `v` of a share `w`. -/
def logit (x : Vec Ideal S256x512 .bf16) (w : Vec Ideal S512x4096 .bf16) (r : Fin 256) (v : Fin 4096) : EReal :=
  ∑ k : Fin 512, (x (ix2 r k) : EReal) * w (ix2 k v)

theorem pay1_apply (x : Vec Ideal S256x512 .bf16) (w : Vec Ideal S512x4096 .bf16) (r : Fin 256) (v : Fin 4096) :
    k0_pay1 (F := Ideal) x w (ix2 r v) = logit x w r v := by
  unfold logit
  pointwise [k0_pay1]

/-- A choice on the equality of two words. -/
theorem select_eq {α : Type} (a b : BitVec 32) (u v : α) :
    Scalar.select (IntOp.cmpi .eq a b) u v = if a = b then u else v := by
  rw [WordCmp.cmpi_eq_eq]
  by_cases h : a = b
  · rw [if_pos h, decide_eq_true h]; rfl
  · rw [if_neg h, decide_eq_false h]; rfl

theorem pay2_apply (x : Vec Ideal S256x512 .bf16) (w : Vec Ideal S512x4096 .bf16) (r : Fin 256) :
    k0_pay2 (F := Ideal) x w (ix2 r 0) = ∑ v : Fin 4096, Ideal.exp (logit x w r v) := by
  pointwise [k0_pay2, pay1_apply]

theorem pay4_apply_zero (p : FVec Ideal S256x4096 .f32) (q : FVec Ideal S256x1 .f32) (l : IVec S256x1 32)
    (i : IVec S256x4096 32) (r : Fin 256) : k0_pay4 (F := Ideal) p q l i (ix3 0 r 0) = q (ix2 r 0) := by
  pointwise [k0_pay4]

theorem pay4_apply_one (p : FVec Ideal S256x4096 .f32) (q : FVec Ideal S256x1 .f32) (l : IVec S256x1 32)
    (i : IVec S256x4096 32) (r : Fin 256) : k0_pay4 (F := Ideal) p q l i (ix3 0 r 1)
      = ∑ v : Fin 4096, if i (ix2 r v) = l (ix2 r 0) then p (ix2 r v) else 0 := by
  pointwise [k0_pay4, select_eq]

theorem pay5_apply (t : Vec Ideal S4x256x2 .f32) (r : Fin 256) : k0_pay5 (F := Ideal) t (ix2 r 0)
      = Ideal.log (∑ k : Fin 4, t (ix3 k r 0)) - ∑ k : Fin 4, t (ix3 k r 1) := by
  pointwise [k0_pay5]

/-- A column number is the label less the share's offset exactly when the label names that column of the whole. -/
theorem column_iff (d : Dev nD) (l : BitVec 32) (v : Fin 4096) :
    BitVec.ofNat 32 v.val = l - Scalar.muli (Scalar.remsi (Scalar.divsi (Dev.word d) 1#32) 4#32) 4096#32
      ↔ l.toNat = d.val * 4096 + v.val := by
  have hd : Scalar.muli (Scalar.remsi (Scalar.divsi (Dev.word d) 1#32) 4#32) 4096#32 = BitVec.ofNat 32 (d.val * 4096) := by
    revert d; decide
  have h4 : d.val < 4 := d.isLt
  have hv := v.isLt
  have hl := l.isLt
  rw [hd, ← BitVec.toNat_inj, BitVec.toNat_sub, BitVec.toNat_ofNat, BitVec.toNat_ofNat]
  omega

theorem pay3_apply (d : Dev nD) (l : Vec Ideal S256x1 .i32) (r : Fin 256) : k0_pay3 (F := Ideal) d l (ix2 r 0)
    = l (ix2 r 0) - Scalar.muli (Scalar.remsi (Scalar.divsi (Dev.word d) 1#32) 4#32) 4096#32 := by
  pointwise [k0_pay3]
  rfl

variable (xs : Dev nD → Vec Ideal S256x512 .bf16) (ws : Dev nD → Vec Ideal S512x4096 .bf16) (ls : Dev nD → Vec Ideal S256x1 .i32)

theorem part_apply_zero (d : Dev nD) (r : Fin 256) :
    part xs ws ls d (ix3 0 r 0) = ∑ v : Fin 4096, Ideal.exp (logit (xs d) (ws d) r v) := by
  unfold part
  rw [pay4_apply_zero, pay2_apply]

theorem part_apply_one (d : Dev nD) (r : Fin 256) :
    part xs ws ls d (ix3 0 r 1)
      = ∑ v : Fin 4096, if (ls d (ix2 r 0) : BitVec 32).toNat = d.val * 4096 + v.val then logit (xs d) (ws d) r v else 0 := by
  unfold part
  rw [pay4_apply_one]
  refine Finset.sum_congr rfl fun v _ => ?_
  rw [pay1_apply, pay3_apply]
  refine if_congr ?_ rfl rfl
  have hi : iota .tc S256x4096 32 [1] iota_S256x4096_d1_w32 (ix2 r v) = BitVec.ofNat 32 v.val := by pointwise
  rw [hi]
  exact column_iff d _ v

/-- The slots of a device name each device once. -/
theorem src_bijective (c : Dev nD) : Function.Bijective (src c) := by revert c; decide

theorem loss_apply (c : Dev nD) (r : Fin 256) : loss xs ws ls c (ix2 r 0)
    = Ideal.log (∑ d : Dev nD, ∑ v : Fin 4096, Ideal.exp (logit (xs d) (ws d) r v))
      - ∑ d : Dev nD, ∑ v : Fin 4096, if (ls d (ix2 r 0) : BitVec 32).toNat = d.val * 4096 + v.val then logit (xs d) (ws d) r v else 0 := by
  unfold loss
  rw [pay5_apply]
  have h0 : ∀ k : Fin 4, comm (part xs ws ls) c (ix3 k r 0) = part xs ws ls (src c k) (ix3 0 r 0) := fun k => by
    show part xs ws ls (src c k) (low (ix3 k r 0)) = _
    congr 1
    idx_ext
  have h1 : ∀ k : Fin 4, comm (part xs ws ls) c (ix3 k r 1) = part xs ws ls (src c k) (ix3 0 r 1) := fun k => by
    show part xs ws ls (src c k) (low (ix3 k r 1)) = _
    congr 1
    idx_ext
  simp only [h0, h1, part_apply_zero, part_apply_one]
  rw [(src_bijective c).sum_comp fun d => ∑ v : Fin 4096, Ideal.exp (logit (xs d) (ws d) r v),
    (src_bijective c).sum_comp fun d => ∑ v : Fin 4096,
      if (ls d (ix2 r 0) : BitVec 32).toNat = d.val * 4096 + v.val then logit (xs d) (ws d) r v else 0]

/-- The answer at row `r`, of the argument arrays. -/
theorem answer_apply (m : (ℓ : Loc nD τ sig) → Buf (Elt Ideal) ℓ) (c : Dev nD) (r : Fin 256) : answer m c (ix1 r)
    = Ideal.log (∑ d : Dev nD, ∑ v : Fin 4096,
          Ideal.exp (logit (m ((d : Thread nD τ).loc main_arg0)) (m ((d : Thread nD τ).loc main_arg1)) r v))
      - ∑ d : Dev nD, ∑ v : Fin 4096, if BitVec.toNat ((m ((d : Thread nD τ).loc main_arg2) : Vec Ideal S256 .i32) (ix1 r)) = d.val * 4096 + v.val
          then logit (m ((d : Thread nD τ).loc main_arg0)) (m ((d : Thread nD τ).loc main_arg1)) r v else 0 := by
  have hc : answer m c (ix1 r) = lossOf m c (ix2 r 0) := by
    unfold answer
    pointwise
  have hl : ∀ d, Exchange.ls m d (ix2 r 0) = (m ((d : Thread nD τ).loc main_arg2) : Vec Ideal S256 .i32) (ix1 r) := fun d => by
    rw [ls_eq]
    pointwise
  refine hc.trans ((loss_apply _ _ _ c r).trans ?_)
  simp only [xs_eq, ws_eq, hl]

end Cert.KernelIdeal.Exchange

end
-- ==== Proof.Value.Reference.lean ====
/-
# What the reference answers, read at a row

Over the extended reals, for labels that are columns: the maximum of the row's logits plus the logarithm of the sum of the
exponentials of the logits less that maximum, less the logit at the label's column.
-/
module

public import proofs.«01_k».proof.Proof.Gen.ReferenceIdeal.Run
public import Idealize.ShloMosaic.Lib.Pointwise
public import Idealize.ShloMosaic.Lib.WordCmp
public import Idealize.ShloMosaic.PureOps.Ideal.Laws

@[expose] public section

noncomputable section

namespace Cert.ReferenceIdeal.Value

open Cert.ReferenceIdeal Cert.ReferenceIdeal.Gen

open Idealize.ShloMosaic
open Idealize.ShloMosaic.TcCoe
open Idealize.SL Idealize.SL.Sem

/-- The logit of row `r` and column `v`. -/
def logit (x : Vec Ideal S256x512 .bf16) (w : Vec Ideal S512x16384 .bf16) (r : Fin 256) (v : Fin 16384) : EReal :=
  ∑ k : Fin 512, (x (ix2 r k) : EReal) * w (ix2 k v)

/-- The array of logits. -/
def logits (x : Vec Ideal S256x512 .bf16) (w : Vec Ideal S512x16384 .bf16) : FVec Ideal S256x16384 .f32 :=
  Host.dotGeneral dot_S256x512_S512x16384_S256x16384_1_0_0_1_n_n none (extf .f32 x bitsLt_bf16_f32) (extf .f32 w bitsLt_bf16_f32)

/-- The row maxima. -/
def tops (D : FVec Ideal S256x16384 .f32) : FVec Ideal S256 .f32 :=
  Host.reduce FloatOps.maximumf D (constant S_ .f32 0xFF800000#32) reducesTo_S256x16384_S256_d1 h_S_

/-- The table of places to pick. -/
def places (l : IVec S256 32) : IVec S256x2 32 :=
  concatenate S256x2 1 [⟨S256x1, (broadcastInDim S256x1 ![0] bcast_S256_S256x1_0 (select (cmpi .slt (iotaInDim S256 32 0) (broadcastInDim S256 ![] bcast_S_S256 (constantI S_ 32 0#32))) (addi (iotaInDim S256 32 0) (broadcastInDim S256 ![] bcast_S_S256 (constantI S_ 32 256#32))) (iotaInDim S256 32 0)))⟩,
    ⟨S256x1, (broadcastInDim S256x1 ![0] bcast_S256_S256x1_0 (select (cmpi .slt l (broadcastInDim S256 ![] bcast_S_S256 (constantI S_ 32 0#32))) (addi l (broadcastInDim S256 ![] bcast_S_S256 (constantI S_ 32 16384#32))) l))⟩] concatenates_S256x1_S256x1_S256x2_d1

/-- The row sums of the exponentials of the logits less `M`. -/
def sums (D : FVec Ideal S256x16384 .f32) (M : FVec Ideal S256 .f32) : FVec Ideal S256 .f32 :=
  Host.reduceAdd (Host.exp (subf D (broadcastInDim S256x16384 ![0, 1] bcast_S256x1_S256x16384_0_1 (broadcastInDim S256x1 ![0] bcast_S256_S256x1_0 M))))
    (constant S_ .f32 0x00000000#32) reducesTo_S256x16384_S256_d1 h_S_

/-- The last line: maximum plus logarithm, less what was picked. -/
def finish (M S g : FVec Ideal S256 .f32) : FVec Ideal S256 .f32 :=
  subf (shapeCast _ (addf (broadcastInDim S256x1 ![0] bcast_S256_S256x1_0 M) (Host.log (broadcastInDim S256x1 ![0] bcast_S256_S256x1_0 S))) shapeCasts_S256x1_S256) g

/-- The picked entries. -/
def picked (D : FVec Ideal S256x16384 .f32) (t : IVec S256x2 32) : FVec Ideal S256 .f32 :=
  Host.gather gather_S256x16384_S256x2_S256_n_01_n_n_01_1_11 D t

/-- The answer, of the logits and the labels. -/
def result (D : FVec Ideal S256x16384 .f32) (l : IVec S256 32) : FVec Ideal S256 .f32 :=
  finish (tops D) (sums D (tops D)) (picked D (places l))

/-- The run's result is that answer. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
        = result (logits (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

theorem logits_apply (x : Vec Ideal S256x512 .bf16) (w : Vec Ideal S512x16384 .bf16) (r : Fin 256) (v : Fin 16384) :
    logits x w (ix2 r v) = logit x w r v := by
  unfold logit
  pointwise [logits, dot_S256x512_S512x16384_S256x16384_1_0_0_1_n_n]

theorem tops_apply (D : FVec Ideal S256x16384 .f32) (r : Fin 256) :
    tops D (ix1 r) = Finset.univ.sup fun v : Fin 16384 => (D (ix2 r v) : EReal) := by
  have hb : Ideal.ofBits .f32 4286578688#32 = ⊥ := by simp [Ideal.ofBits, Ideal.ieee]
  pointwise [tops]
  rw [hb]
  rfl

theorem places_apply_zero (l : IVec S256 32) (r : Fin 256) : places l (ix2 r 0) = BitVec.ofNat 32 r.val := by
  pointwise [places]
  have hr := r.isLt
  rw [WordCmp.cmpi_slt_ofNat (by omega) (by omega), decide_eq_false (by omega)]
  rfl

theorem places_apply_one (l : IVec S256 32) (r : Fin 256) (h : (l (ix1 r)).toNat < 16384) : places l (ix2 r 1) = l (ix1 r) := by
  pointwise [places]
  rw [WordCmp.cmpi_slt_zero, decide_eq_false (by omega)]
  rfl

theorem sums_apply (D : FVec Ideal S256x16384 .f32) (M : FVec Ideal S256 .f32) (r : Fin 256) :
    sums D M (ix1 r) = ∑ v : Fin 16384, Ideal.exp (D (ix2 r v) - M (ix1 r)) := by
  pointwise [sums]

theorem finish_apply (M S g : FVec Ideal S256 .f32) (r : Fin 256) :
    finish M S g (ix1 r) = M (ix1 r) + Ideal.log (S (ix1 r)) - g (ix1 r) := by
  pointwise [finish]

/-- The picks' dimension numbers. -/
abbrev picks : GatherDims S256x16384 S256x2 S256 := gather_S256x16384_S256x2_S256_n_01_n_n_01_1_11

/-- The slice picked for row `r` starts, on axis `a`, at the table's entry `(r, a)` read signed, kept inside the array, and is
    one element. -/
theorem picks_start (t : IVec S256x2 32) (r : Fin 256) (a : Fin 2) :
    (picks.operandIdx (ix1 r) t a).val = min (t (ix2 r a)).toInt.toNat (S256x16384.size a - 1) := by
  show picks.start (ix1 r) t a + picks.batchCoord (ix1 r) a + picks.offCoord (ix1 r) a = _
  have hmem : a ∈ picks.startIndexMap := by
    show a ∈ ([0, 1] : List (Fin 2))
    revert a
    decide
  rw [GatherDims.batchCoord_eq_zero _ _ _ List.not_mem_nil,
    GatherDims.offCoord_eq_zero _ _ _ (fun h => ((GatherDims.mem_sKept _ _).mp h).1 hmem), Nat.add_zero]
  unfold GatherDims.start
  rw [dif_pos hmem]
  have hix : picks.siIdx (ix1 r) ⟨List.idxOf a picks.startIndexMap, List.idxOf_lt_length_iff.2 hmem⟩ = ix2 r a := by
    fin_cases a <;> (funext b; refine Fin.ext ?_; fin_cases b <;> rfl)
  have hone : picks.sliceSizes a = 1 := by fin_cases a <;> rfl
  rw [hix, hone]

theorem picked_apply (D : FVec Ideal S256x16384 .f32) (l : IVec S256 32) (r : Fin 256) (h : (l (ix1 r)).toNat < 16384) :
    picked D (places l) (ix1 r) = D (ix2 r ⟨(l (ix1 r)).toNat, h⟩) := by
  have hr := r.isLt
  show D (picks.operandIdx (ix1 r) (places l)) = _
  refine congrArg D (funext fun a => Fin.ext ((picks_start (places l) r a).trans ?_))
  match a with
  | ⟨0, _⟩ =>
    show min (places l (ix2 r 0)).toInt.toNat (256 - 1) = r.val
    rw [places_apply_zero, BitVec.toInt_eq_toNat_cond, BitVec.toNat_ofNat]
    omega
  | ⟨1, _⟩ =>
    show min (places l (ix2 r 1)).toInt.toNat (16384 - 1) = (l (ix1 r)).toNat
    rw [places_apply_one l r h, BitVec.toInt_eq_toNat_cond]
    omega

/-- The answer at row `r`. -/
theorem result_apply (x : Vec Ideal S256x512 .bf16) (w : Vec Ideal S512x16384 .bf16) (l : IVec S256 32) (r : Fin 256)
    (h : (l (ix1 r)).toNat < 16384) : result (logits x w) l (ix1 r)
      = (Finset.univ.sup (logit x w r) + Ideal.log (∑ v : Fin 16384, Ideal.exp (logit x w r v - Finset.univ.sup (logit x w r))))
        - logit x w r ⟨(l (ix1 r)).toNat, h⟩ := by
  unfold result
  have ht : tops (logits x w) (ix1 r) = Finset.univ.sup (logit x w r) :=
    (tops_apply _ r).trans (Finset.sup_congr rfl fun v _ => logits_apply x w r v)
  rw [finish_apply, sums_apply, picked_apply _ _ _ h, ht, logits_apply]
  simp only [logits_apply]

end Cert.ReferenceIdeal.Value

end
-- ==== Proof.Value.Reals.lean ====
/-
# The two forms of the loss agree on finite logits

For real logits, the maximum plus the logarithm of the sum of the exponentials less the maximum is the logarithm of the sum of
the exponentials, and a sum that keeps only the label's column is the logit there.
-/
module

public import Idealize.ShloMosaic.PureOps.Ideal
public import Idealize.ShloMosaic.PureOps.Ideal.Laws
public import Mathlib.Analysis.SpecialFunctions.Log.Basic

@[expose] public section

noncomputable section

namespace Cert.LossReal

open Idealize.ShloMosaic

/-- A finite sum of reals, as extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The contraction of real arrays is real. -/
theorem contraction_real {n : ℕ} (a b : Fin n → EReal) (ha : ∀ k, ∃ q : ℝ, a k = q) (hb : ∀ k, ∃ q : ℝ, b k = q) :
    ∃ q : ℝ, ∑ k, a k * b k = q := by
  choose f hf using ha
  choose g hg using hb
  refine ⟨∑ k, f k * g k, ?_⟩
  rw [coe_sum]
  exact Finset.sum_congr rfl fun k _ => by rw [hf, hg, EReal.coe_mul]

/-- The logarithm of a sum of exponentials of reals. -/
theorem log_sum_exp {n : ℕ} [NeZero n] (f : Fin n → ℝ) :
    Ideal.log (∑ v, Ideal.exp (f v : EReal)) = ((Real.log (∑ v, Real.exp (f v)) : ℝ) : EReal) := by
  have hpos : 0 < ∑ v, Real.exp (f v) := Finset.sum_pos (fun v _ => Real.exp_pos _) ⟨0, Finset.mem_univ _⟩
  have he : ∑ v, Ideal.exp (f v : EReal) = ((∑ v, Real.exp (f v) : ℝ) : EReal) := (coe_sum _ _).symm
  rw [he]
  show (if (∑ v, Real.exp (f v)) ≤ 0 then (⊥ : EReal) else _) = _
  rw [if_neg (not_le.mpr hpos)]

/-- Taking a constant out of the exponentials. -/
theorem shift_log_sum {n : ℕ} [NeZero n] (f : Fin n → ℝ) (M : ℝ) :
    M + Real.log (∑ v, Real.exp (f v - M)) = Real.log (∑ v, Real.exp (f v)) := by
  have hpos : 0 < ∑ v, Real.exp (f v) := Finset.sum_pos (fun v _ => Real.exp_pos _) ⟨0, Finset.mem_univ _⟩
  have hs : ∑ v, Real.exp (f v - M) = (∑ v, Real.exp (f v)) * Real.exp (-M) := by
    rw [Finset.sum_mul]
    exact Finset.sum_congr rfl fun v _ => by rw [← Real.exp_add, sub_eq_add_neg]
  rw [hs, Real.log_mul hpos.ne' (Real.exp_pos _).ne', Real.log_exp]
  ring

/-- The two forms of the loss. -/
theorem loss_eq {n : ℕ} [NeZero n] (g : Fin n → EReal) (hg : ∀ v, ∃ q : ℝ, g v = q) (j : Fin n) :
    (Finset.univ.sup g + Ideal.log (∑ v, Ideal.exp (g v - Finset.univ.sup g))) - g j
      = Ideal.log (∑ v, Ideal.exp (g v)) - ∑ v, if j.val = v.val then g v else 0 := by
  choose f hf using hg
  obtain rfl : g = fun v => (f v : EReal) := funext hf
  obtain ⟨i, -, hi⟩ := Finset.exists_mem_eq_sup (Finset.univ : Finset (Fin n)) ⟨0, Finset.mem_univ _⟩ fun v => (f v : EReal)
  have hpick : (∑ v, if j.val = v.val then (f v : EReal) else 0) = (f j : EReal) := by
    rw [Finset.sum_eq_single j (fun v _ hv => if_neg fun h => hv (Fin.ext h.symm)) (fun h => absurd (Finset.mem_univ j) h), if_pos rfl]
  have hsub : ∀ v, (f v : EReal) - (f i : EReal) = ((f v - f i : ℝ) : EReal) := fun v => (EReal.coe_sub _ _).symm
  rw [hi, hpick]
  simp only [hsub]
  rw [log_sum_exp, log_sum_exp, ← EReal.coe_add, shift_log_sum]

end Cert.LossReal

end
-- ==== Proof.Value.Promise.lean ====
/-
# What the precondition says

Every entry of a device's two float blocks is a real number, and every label is a column number.
-/
module

public import proofs.«01_k».proof.Defs
public import Idealize.ShloMosaic.Lib.ReduceAll
public import Idealize.ShloMosaic.Lib.WordCmp
public import Idealize.ShloMosaic.Lib.Pointwise
public import Idealize.ShloMosaic.PureOps.Ideal.Laws

@[expose] public section

noncomputable section

namespace Cert.Promise

open Idealize.ShloMosaic

/-- The precondition's side conditions on the kernel's blocks. -/
theorem facts_kernel : Cert.Pre_finite_and_in_range_KernelIdeal.Facts where
  bitsLt_bf16_f32 := by decide
  bcast_S_S256x512 := by decide
  reducesTo_S256x512_S_d0_1 := by decide
  h_S_ := by decide
  bcast_S_S512x4096 := by decide
  reducesTo_S512x4096_S_d0_1 := by decide
  bcast_S_S256 := by decide
  reducesTo_S256_S_d0 := by decide

/-- The same on the reference's whole arrays. -/
theorem facts_reference : Cert.Pre_finite_and_in_range_ReferenceIdeal.Facts where
  bitsLt_bf16_f32 := by decide
  bcast_S_S256x512 := by decide
  reducesTo_S256x512_S_d0_1 := by decide
  h_S_ := by decide
  bcast_S_S512x16384 := by decide
  reducesTo_S512x16384_S_d0_1 := by decide
  bcast_S_S256 := by decide
  reducesTo_S256_S_d0 := by decide

/-- An extended real whose magnitude is below the infinity is real. -/
theorem real_of_abs (a : EReal) (h : Ideal.cmp .olt (max a (-a)) (Ideal.ofBits .f32 0x7F800000#32) = 1#1) : ∃ q : ℝ, a = q := by
  have ht : Ideal.ofBits .f32 0x7F800000#32 = ⊤ := by simp [Ideal.ofBits, Ideal.ieee]
  rw [ht] at h
  induction a with
  | bot => exact absurd h (by simp [Ideal.cmp])
  | top => exact absurd h (by simp [Ideal.cmp])
  | coe q => exact ⟨q, rfl⟩

open Cert.Pre_finite_and_in_range_KernelIdeal in
theorem read [Facts] (x : FVec Ideal S256x512 .bf16) (w : FVec Ideal S512x4096 .bf16) (l : IVec S256 32)
    (h : fn (F := Ideal) x w l = fun _ => 1#1) :
    (∀ i, ∃ q : ℝ, (x i : EReal) = q) ∧ (∀ i, ∃ q : ℝ, (w i : EReal) = q) ∧ ∀ i, (l i).toNat < 16384 := by
  have hsub : Subsingleton S_.Idx := ⟨fun a b => funext fun k => k.elim0⟩
  have h0 := congrFun h (fun k => k.elim0)
  unfold fn fn_part1 at h0
  obtain ⟨h12, h3⟩ := IntOp.andi_eq_one.1 h0
  obtain ⟨h1, h2⟩ := IntOp.andi_eq_one.1 h12
  refine ⟨fun i => real_of_abs _ ?_, fun i => real_of_abs _ ?_, fun i => ?_⟩
  · exact Host.reduce_andi_all _ _ _ _ _ h1 i
  · exact Host.reduce_andi_all _ _ _ _ _ h2 i
  · have h4 := Host.reduce_andi_all _ _ _ _ _ h3 i
    have h5 : IntOp.andi (IntOp.cmpi .sge (l i) 0#32) (IntOp.cmpi .slt (l i) (BitVec.ofNat 32 16384)) = 1#1 := h4
    rw [WordCmp.andi_sge_zero_slt_ofNat (by decide)] at h5
    exact (WordCmp.ofBool_decide_eq_one_iff _).1 h5

end Cert.Promise

end
-- ==== Proof.Value.Agree.lean ====
/-
# The kernel's answer is the reference's

A device's share of the weight matrix is a run of 4096 columns, so the four devices' sums together are the sums over the whole
matrix's columns. With real entries and labels that are columns the two forms of the loss agree.
-/
module

public import proofs.«01_k».proof.Proof.Value.Kernel
public import proofs.«01_k».proof.Proof.Value.Reference
public import proofs.«01_k».proof.Proof.Value.Reals
public import proofs.«01_k».proof.Proof.Value.Promise
public import Idealize.ShloMosaic.Lib.Layout

@[expose] public section

noncomputable section

namespace Cert.Agree

open Idealize.ShloMosaic Idealize.SL.Sem

open Cert.KernelIdeal (S256x512 S512x4096 S256)
open Cert.ReferenceIdeal (S512x16384)

/-- A device's column of the whole matrix. -/
abbrev col (d : Fin 4) (v : Fin 4096) : Fin 16384 := ⟨d.val * 4096 + v.val, by have := d.isLt; have := v.isLt; omega⟩

/-- A share's logit is the whole matrix's logit at the share's column. -/
theorem logit_block (x : Vec Ideal S256x512 .bf16) (w : Vec Ideal S512x16384 .bf16) (d : Fin 4) (r : Fin 256) (v : Fin 4096) :
    Cert.KernelIdeal.Exchange.logit x (Layout.block ⟨2, ![512, 4096]⟩ ⟨2, ![512, 16384]⟩ 1 4 d w) r v
      = Cert.ReferenceIdeal.Value.logit x w r (col d v) := by
  unfold Cert.KernelIdeal.Exchange.logit Cert.ReferenceIdeal.Value.logit
  refine Finset.sum_congr rfl fun k _ => congrArg (x (ix2 r k) * ·) ?_
  rw [Layout.block_apply]
  refine congrArg w (funext fun a => Fin.ext ?_)
  match a with
  | ⟨0, _⟩ => rfl
  | ⟨1, _⟩ => rfl

/-- Every column is a device's column. -/
theorem col_surjective (n : Fin 16384) : ∃ d v, n = col d v :=
  ⟨⟨n.val / 4096, by have := n.isLt; omega⟩, ⟨n.val % 4096, by omega⟩, Fin.ext (by show n.val = n.val / 4096 * 4096 + n.val % 4096; omega)⟩

/-- A sum over the columns, device by device. -/
theorem sum_cols (f : Fin 16384 → EReal) : ∑ n, f n = ∑ d : Fin 4, ∑ v : Fin 4096, f (col d v) := Fin.sum_univ_tiles 4 4096 rfl f

variable (m : (ℓ : Loc Cert.KernelIdeal.nD Cert.KernelIdeal.τ Cert.KernelIdeal.sig) → Buf (Elt Ideal) ℓ)
variable (x : Vec Ideal S256x512 .bf16) (w : Vec Ideal S512x16384 .bf16) (l : Vec Ideal S256 .i32)

/-- What the devices hold, if they hold their shares of `x`, `w` and `l`. -/
def Shares : Prop := ∀ c : Dev Cert.KernelIdeal.nD,
  m ((c.tc : Thread Cert.KernelIdeal.nD Cert.KernelIdeal.τ).loc Cert.KernelIdeal.main_arg0) = x
  ∧ m ((c.tc : Thread Cert.KernelIdeal.nD Cert.KernelIdeal.τ).loc Cert.KernelIdeal.main_arg1) = Layout.block ⟨2, ![512, 4096]⟩ ⟨2, ![512, 16384]⟩ 1 4 c w
  ∧ m ((c.tc : Thread Cert.KernelIdeal.nD Cert.KernelIdeal.τ).loc Cert.KernelIdeal.main_arg2) = l

attribute [local instance] Cert.Promise.facts_kernel

theorem logit_real (hs : Shares m x w l) (hpre : Cert.Pre_KernelIdeal_finite_and_in_range_KernelIdeal m) (r : Fin 256) (n : Fin 16384) :
    ∃ q : ℝ, Cert.ReferenceIdeal.Value.logit x w r n = q := by
  obtain ⟨d, v, rfl⟩ := col_surjective n
  obtain ⟨hx, hw, -⟩ := Cert.Promise.read _ _ _ (hpre d)
  rw [(hs d).1] at hx
  rw [(hs d).2.1] at hw
  rw [← logit_block]
  exact Cert.LossReal.contraction_real _ _ (fun k => hx _) fun k => hw _

theorem label_lt (hs : Shares m x w l) (hpre : Cert.Pre_KernelIdeal_finite_and_in_range_KernelIdeal m) (r : Fin 256) :
    BitVec.toNat (l (ix1 r)) < 16384 := by
  obtain ⟨-, -, hl⟩ := Cert.Promise.read _ _ _ (hpre 0)
  rw [(hs 0).2.2] at hl
  exact hl _

/-- The answers agree. -/
theorem answer_eq (hs : Shares m x w l) (hpre : Cert.Pre_KernelIdeal_finite_and_in_range_KernelIdeal m) (c : Dev Cert.KernelIdeal.nD) :
    Cert.KernelIdeal.Exchange.answer m c = Cert.ReferenceIdeal.Value.result (Cert.ReferenceIdeal.Value.logits x w) l := by
  funext i
  obtain ⟨r, rfl⟩ : ∃ r : Fin 256, i = ix1 r := ⟨i 0, eq_ix1 i⟩
  have hl := label_lt m x w l hs hpre r
  refine (Cert.KernelIdeal.Exchange.answer_apply m c r).trans (Eq.trans ?_ (Cert.ReferenceIdeal.Value.result_apply x w l r hl).symm)
  rw [Cert.LossReal.loss_eq _ (logit_real m x w l hs hpre r), sum_cols, sum_cols]
  refine congrArg₂ (fun a b : EReal => Ideal.log a - b) ?_ ?_
  · refine Finset.sum_congr rfl fun d _ => Finset.sum_congr rfl fun v _ => ?_
    rw [(hs d).1, (hs d).2.1, logit_block]
  · refine Finset.sum_congr rfl fun d _ => Finset.sum_congr rfl fun v _ => ?_
    rw [(hs d).1, (hs d).2.1, (hs d).2.2, logit_block]

end Cert.Agree

end
-- ==== Proof.lean ====
/-
# The claims of the certificate, assembled
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Results
public import proofs.«01_k».proof.Proof.Words.Results
public import proofs.«01_k».proof.Proof.Value.Agree
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel over machine words: it terminates, its arguments end unchanged and every counter ends at zero. -/
theorem frame_words : Cert.quiescent_Kernel := fun m ρ _ => Cert.Kernel.Exchange.frame (F := Bits) m ρ

/-- The same over the extended reals. -/
theorem frame_ideal : Cert.quiescent_KernelIdeal := fun m ρ _ => Cert.KernelIdeal.Exchange.frame (F := Ideal) m ρ

/-- The reference over the extended reals: its run leaves the arguments alone, and it has no semaphore. -/
theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run (F := Ideal) m ρ)

/-- The loss: on every device the kernel's answer is the reference's. -/
theorem loss_agrees : Cert.algebraic_KernelIdeal_ReferenceIdeal_pre_finite_and_in_range_KernelIdeal
    (hPre_finite_and_in_range_KernelIdeal := Cert.Promise.facts_kernel) := by
  intro m g m' g' hpre hagree
  refine ⟨_, (θ_run Cert.KernelIdeal.defs _ _).mono (fun r h c => ⟨((h.1 c).1).trans ?_, (h.1 c).2⟩)
    (Cert.KernelIdeal.Exchange.run_result (F := Ideal) m g),
    (θ_run Cert.ReferenceIdeal.defs _ _).mono (fun r h => h 0) (Cert.ReferenceIdeal.Value.run_result m' g')⟩
  exact Cert.Agree.answer_eq m _ _ _ hagree hpre c

theorem claim : Cert.Claim := ⟨Cert.Kernel.Gen.facts, Cert.KernelIdeal.Gen.facts, Cert.ReferenceIdeal.Gen.facts,
  Cert.Promise.facts_kernel, Cert.Promise.facts_reference,
  frame_words, frame_ideal, fun m ρ _ => frame_ideal m ρ trivial, frame_reference, fun m ρ _ => frame_reference m ρ trivial,
  trivial, loss_agrees⟩

end Cert.Proof

end
